-- ==== Defs.lean ====
def Pre_Kernel [hPre_slots_in_pool : Cert.Pre_slots_in_pool.Facts] (m : (ℓ : Loc Cert.Kernel.nD Cert.Kernel.τ Cert.Kernel.sig) → Buf (Elt Bits) ℓ) : Prop :=
  ∀ c : Dev Cert.Kernel.nD,
    (Cert.Pre_slots_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_slots_in_pool : Cert.Pre_slots_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_finite_step_inputs [hPre_finite_step_inputs : Cert.Pre_finite_step_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_step_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_step_inputs [hPre_finite_step_inputs : Cert.Pre_finite_step_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_step_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_slots_in_pool : Cert.Pre_slots_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_slots_in_pool : Cert.Pre_slots_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_step_inputs [hKernelIdeal : Cert.KernelIdeal.Facts] [hPre_finite_step_inputs : Cert.Pre_finite_step_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_step_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_step_inputs [hReferenceIdeal : Cert.ReferenceIdeal.Facts] [hPre_finite_step_inputs : Cert.Pre_finite_step_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_step_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_step_inputs [hKernelIdeal : Cert.KernelIdeal.Facts] [hReferenceIdeal : Cert.ReferenceIdeal.Facts] [hPre_finite_step_inputs : Cert.Pre_finite_step_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_step_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14_0) = v0 c
          ∧ r.2.mem ((c.tc : Thread Cert.ReferenceIdeal.nD Cert.ReferenceIdeal.τ).loc Cert.ReferenceIdeal.main_v14_1) = v1 c
          ∧ r.2.mem ((c.tc : Thread Cert.ReferenceIdeal.nD Cert.ReferenceIdeal.τ).loc Cert.ReferenceIdeal.main_v14_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_slots_in_pool : Cert.Pre_slots_in_pool.Facts) (hPre_finite_step_inputs : Cert.Pre_finite_step_inputs.Facts),
    quiescent_Kernel (hKernel := hKernel) (hPre_slots_in_pool := hPre_slots_in_pool)
    ∧ quiescent_KernelIdeal (hKernelIdeal := hKernelIdeal) (hPre_slots_in_pool := hPre_slots_in_pool)
    ∧ quiescent_KernelIdeal_pre_finite_step_inputs (hKernelIdeal := hKernelIdeal) (hPre_finite_step_inputs := hPre_finite_step_inputs)
    ∧ quiescent_ReferenceIdeal (hReferenceIdeal := hReferenceIdeal)
    ∧ quiescent_ReferenceIdeal_pre_finite_step_inputs (hReferenceIdeal := hReferenceIdeal) (hPre_finite_step_inputs := hPre_finite_step_inputs)
    ∧ preserves_Kernel_KernelIdeal
    ∧ algebraic_KernelIdeal_ReferenceIdeal_pre_finite_step_inputs (hKernelIdeal := hKernelIdeal) (hReferenceIdeal := hReferenceIdeal) (hPre_finite_step_inputs := hPre_finite_step_inputs)
-- ==== Pre_finite_step_inputs.lean ====
abbrev S12x128x64 : Shape := ⟨3, ![12, 128, 64]⟩
abbrev S12x128 : Shape := ⟨2, ![12, 128]⟩
abbrev S128 : Shape := ⟨1, ![128]⟩
abbrev S12x8x256 : Shape := ⟨3, ![12, 8, 256]⟩
abbrev S18x128x64x256 : Shape := ⟨4, ![18, 128, 64, 256]⟩
abbrev S18x128 : Shape := ⟨2, ![18, 128]⟩
abbrev S12 : Shape := ⟨1, ![12]⟩
abbrev S_ : Shape := ⟨0, ![]⟩

class Facts : Prop where
  bcast_S_S12 : S_.BroadcastsInDim S12 (![] : Fin 0 → Fin S12.rank)
  reducesTo_S12_S_d0 : S12.ReducesTo [0] S_
  h_S_ : 0 < S_.numel
  bcast_S_S12x128x64 : S_.BroadcastsInDim S12x128x64 (![] : Fin 0 → Fin S12x128x64.rank)
  reducesTo_S12x128x64_S_d0_1_2 : S12x128x64.ReducesTo [0, 1, 2] S_
  bcast_S_S12x128 : S_.BroadcastsInDim S12x128 (![] : Fin 0 → Fin S12x128.rank)
  reducesTo_S12x128_S_d0_1 : S12x128.ReducesTo [0, 1] S_
  bcast_S_S128 : S_.BroadcastsInDim S128 (![] : Fin 0 → Fin S128.rank)
  reducesTo_S128_S_d0 : S128.ReducesTo [0] S_
  bcast_S_S12x8x256 : S_.BroadcastsInDim S12x8x256 (![] : Fin 0 → Fin S12x8x256.rank)
  reducesTo_S12x8x256_S_d0_1_2 : S12x8x256.ReducesTo [0, 1, 2] S_
  bcast_S_S18x128 : S_.BroadcastsInDim S18x128 (![] : Fin 0 → Fin S18x128.rank)
  reducesTo_S18x128_S_d0_1 : S18x128.ReducesTo [0, 1] S_

variable [Facts]

def fn_part2 {F : FTy → Type} [FloatOps F] (main_arg5 : FVec F S12x8x256 .bf16) (main_arg8 : FVec F S18x128 .f32) (main_v26 : IVec S_ 1) (main_v32 : IVec S_ 1) : IVec S_ 1 :=
  let main_v33 : IVec S_ 1 := andi main_v26 main_v32
  let main_cst_13 : FVec F S_ .bf16 := constant S_ .bf16 0xFF80#16
  let main_v34 : FVec F S12x8x256 .bf16 := broadcastInDim S12x8x256 ![] bcast_S_S12x8x256 main_cst_13
  let main_v35 : IVec S12x8x256 1 := cmpf .ogt main_arg5 main_v34
  let main_cst_14 : FVec F S_ .bf16 := constant S_ .bf16 0x7F80#16
  let main_v36 : FVec F S12x8x256 .bf16 := broadcastInDim S12x8x256 ![] bcast_S_S12x8x256 main_cst_14
  let main_v37 : IVec S12x8x256 1 := cmpf .olt main_arg5 main_v36
  let main_v38 : IVec S12x8x256 1 := andi main_v35 main_v37
  let main_c_15 : IVec S_ 1 := constantI S_ 1 1#1
  let main_v39 : IVec S_ 1 := (fun x v => Host.reduce IntOp.andi x v reducesTo_S12x8x256_S_d0_1_2 h_S_) main_v38 main_c_15
  let main_v40 : IVec S_ 1 := andi main_v33 main_v39
  let main_cst_16 : FVec F S_ .f32 := constant S_ .f32 0x00000000#32
  let main_v41 : FVec F S18x128 .f32 := broadcastInDim S18x128 ![] bcast_S_S18x128 main_cst_16
  let main_v42 : IVec S18x128 1 := cmpf .oge main_arg8 main_v41
  let main_cst_17 : FVec F S_ .f32 := constant S_ .f32 0x7F800000#32
  let main_v43 : FVec F S18x128 .f32 := broadcastInDim S18x128 ![] bcast_S_S18x128 main_cst_17
  let main_v44 : IVec S18x128 1 := cmpf .olt main_arg8 main_v43
  let main_v45 : IVec S18x128 1 := andi main_v42 main_v44
  let main_c_18 : IVec S_ 1 := constantI S_ 1 1#1
  let main_v46 : IVec S_ 1 := (fun x v => Host.reduce IntOp.andi x v reducesTo_S18x128_S_d0_1 h_S_) main_v45 main_c_18
  let main_v47 : IVec S_ 1 := andi main_v40 main_v46
  main_v47

def fn_part1 {F : FTy → Type} [FloatOps F] (main_arg1 : FVec F S12x128 .bf16) (main_arg2 : FVec F S128 .f32) (main_arg4 : FVec F S12x8x256 .bf16) (main_arg5 : FVec F S12x8x256 .bf16) (main_arg8 : FVec F S18x128 .f32) (main_v12 : IVec S_ 1) (main_v14 : IVec S12x128 1) (main_v15 : FVec F S12x128 .bf16) : IVec S_ 1 :=
  let main_v16 : IVec S12x128 1 := cmpf .olt main_arg1 main_v15
  let main_v17 : IVec S12x128 1 := andi main_v14 main_v16
  let main_c_6 : IVec S_ 1 := constantI S_ 1 1#1
  let main_v18 : IVec S_ 1 := (fun x v => Host.reduce IntOp.andi x v reducesTo_S12x128_S_d0_1 h_S_) main_v17 main_c_6
  let main_v19 : IVec S_ 1 := andi main_v12 main_v18
  let main_cst_7 : FVec F S_ .f32 := constant S_ .f32 0xFF800000#32
  let main_v20 : FVec F S128 .f32 := broadcastInDim S128 ![] bcast_S_S128 main_cst_7
  let main_v21 : IVec S128 1 := cmpf .ogt main_arg2 main_v20
  let main_cst_8 : FVec F S_ .f32 := constant S_ .f32 0x7F800000#32
  let main_v22 : FVec F S128 .f32 := broadcastInDim S128 ![] bcast_S_S128 main_cst_8
  let main_v23 : IVec S128 1 := cmpf .olt main_arg2 main_v22
  let main_v24 : IVec S128 1 := andi main_v21 main_v23
  let main_c_9 : IVec S_ 1 := constantI S_ 1 1#1
  let main_v25 : IVec S_ 1 := (fun x v => Host.reduce IntOp.andi x v reducesTo_S128_S_d0 h_S_) main_v24 main_c_9
  let main_v26 : IVec S_ 1 := andi main_v19 main_v25
  let main_cst_10 : FVec F S_ .bf16 := constant S_ .bf16 0xFF80#16
  let main_v27 : FVec F S12x8x256 .bf16 := broadcastInDim S12x8x256 ![] bcast_S_S12x8x256 main_cst_10
  let main_v28 : IVec S12x8x256 1 := cmpf .ogt main_arg4 main_v27
  let main_cst_11 : FVec F S_ .bf16 := constant S_ .bf16 0x7F80#16
  let main_v29 : FVec F S12x8x256 .bf16 := broadcastInDim S12x8x256 ![] bcast_S_S12x8x256 main_cst_11
  let main_v30 : IVec S12x8x256 1 := cmpf .olt main_arg4 main_v29
  let main_v31 : IVec S12x8x256 1 := andi main_v28 main_v30
  let main_c_12 : IVec S_ 1 := constantI S_ 1 1#1
  let main_v32 : IVec S_ 1 := (fun x v => Host.reduce IntOp.andi x v reducesTo_S12x8x256_S_d0_1_2 h_S_) main_v31 main_c_12
  fn_part2 (F := F) main_arg5 main_arg8 main_v26 main_v32

def fn {F : FTy → Type} [FloatOps F] (main_arg0 : FVec F S12x128x64 .bf16) (main_arg1 : FVec F S12x128 .bf16) (main_arg2 : FVec F S128 .f32) (main_arg3 : FVec F S128 .f32) (main_arg4 : FVec F S12x8x256 .bf16) (main_arg5 : FVec F S12x8x256 .bf16) (main_arg6 : FVec F S128 .f32) (main_arg7 : FVec F S18x128x64x256 .fp8e4m3) (main_arg8 : FVec F S18x128 .f32) (main_arg9 : IVec S12 32) : IVec S_ 1 :=
  let main_c : IVec S_ 32 := constantI S_ 32 0#32
  let main_v0 : IVec S12 32 := broadcastInDim S12 ![] bcast_S_S12 main_c
  let main_v1 : IVec S12 1 := cmpi .sge main_arg9 main_v0
  let main_c_0 : IVec S_ 32 := constantI S_ 32 18#32
  let main_v2 : IVec S12 32 := broadcastInDim S12 ![] bcast_S_S12 main_c_0
  let main_v3 : IVec S12 1 := cmpi .slt main_arg9 main_v2
  let main_v4 : IVec S12 1 := andi main_v1 main_v3
  let main_c_1 : IVec S_ 1 := constantI S_ 1 1#1
  let main_v5 : IVec S_ 1 := (fun x v => Host.reduce IntOp.andi x v reducesTo_S12_S_d0 h_S_) main_v4 main_c_1
  let main_cst : FVec F S_ .bf16 := constant S_ .bf16 0xFF80#16
  let main_v6 : FVec F S12x128x64 .bf16 := broadcastInDim S12x128x64 ![] bcast_S_S12x128x64 main_cst
  let main_v7 : IVec S12x128x64 1 := cmpf .ogt main_arg0 main_v6
  let main_cst_2 : FVec F S_ .bf16 := constant S_ .bf16 0x7F80#16
  let main_v8 : FVec F S12x128x64 .bf16 := broadcastInDim S12x128x64 ![] bcast_S_S12x128x64 main_cst_2
  let main_v9 : IVec S12x128x64 1 := cmpf .olt main_arg0 main_v8
  let main_v10 : IVec S12x128x64 1 := andi main_v7 main_v9
  let main_c_3 : IVec S_ 1 := constantI S_ 1 1#1
  let main_v11 : IVec S_ 1 := (fun x v => Host.reduce IntOp.andi x v reducesTo_S12x128x64_S_d0_1_2 h_S_) main_v10 main_c_3
  let main_v12 : IVec S_ 1 := andi main_v5 main_v11
  let main_cst_4 : FVec F S_ .bf16 := constant S_ .bf16 0xFF80#16
  let main_v13 : FVec F S12x128 .bf16 := broadcastInDim S12x128 ![] bcast_S_S12x128 main_cst_4
  let main_v14 : IVec S12x128 1 := cmpf .ogt main_arg1 main_v13
  let main_cst_5 : FVec F S_ .bf16 := constant S_ .bf16 0x7F80#16
  let main_v15 : FVec F S12x128 .bf16 := broadcastInDim S12x128 ![] bcast_S_S12x128 main_cst_5
  fn_part1 (F := F) main_arg1 main_arg2 main_arg4 main_arg5 main_arg8 main_v12 main_v14 main_v15
-- ==== Pre_slots_in_pool.lean ====
abbrev S12x128x64 : Shape := ⟨3, ![12, 128, 64]⟩
abbrev S12x128 : Shape := ⟨2, ![12, 128]⟩
abbrev S128 : Shape := ⟨1, ![128]⟩
abbrev S12x8x256 : Shape := ⟨3, ![12, 8, 256]⟩
abbrev S18x128x64x256 : Shape := ⟨4, ![18, 128, 64, 256]⟩
abbrev S18x128 : Shape := ⟨2, ![18, 128]⟩
abbrev S12 : Shape := ⟨1, ![12]⟩
abbrev S_ : Shape := ⟨0, ![]⟩

class Facts : Prop where
  bcast_S_S12 : S_.BroadcastsInDim S12 (![] : Fin 0 → Fin S12.rank)
  reducesTo_S12_S_d0 : S12.ReducesTo [0] S_
  h_S_ : 0 < S_.numel

variable [Facts]

def fn {F : FTy → Type} [FloatOps F] (main_arg0 : FVec F S12x128x64 .bf16) (main_arg1 : FVec F S12x128 .bf16) (main_arg2 : FVec F S128 .f32) (main_arg3 : FVec F S128 .f32) (main_arg4 : FVec F S12x8x256 .bf16) (main_arg5 : FVec F S12x8x256 .bf16) (main_arg6 : FVec F S128 .f32) (main_arg7 : FVec F S18x128x64x256 .fp8e4m3) (main_arg8 : FVec F S18x128 .f32) (main_arg9 : IVec S12 32) : IVec S_ 1 :=
  let main_c : IVec S_ 32 := constantI S_ 32 0#32
  let main_v0 : IVec S12 32 := broadcastInDim S12 ![] bcast_S_S12 main_c
  let main_v1 : IVec S12 1 := cmpi .sge main_arg9 main_v0
  let main_c_0 : IVec S_ 32 := constantI S_ 32 18#32
  let main_v2 : IVec S12 32 := broadcastInDim S12 ![] bcast_S_S12 main_c_0
  let main_v3 : IVec S12 1 := cmpi .slt main_arg9 main_v2
  let main_v4 : IVec S12 1 := andi main_v1 main_v3
  let main_c_1 : IVec S_ 1 := constantI S_ 1 1#1
  let main_v5 : IVec S_ 1 := (fun x v => Host.reduce IntOp.andi x v reducesTo_S12_S_d0 h_S_) main_v4 main_c_1
  main_v5
-- ==== Kernel.lean ====
abbrev S12x128x64 : Shape := ⟨3, ![12, 128, 64]⟩
abbrev S12x128 : Shape := ⟨2, ![12, 128]⟩
abbrev S128 : Shape := ⟨1, ![128]⟩
abbrev S12x8x256 : Shape := ⟨3, ![12, 8, 256]⟩
abbrev S18x128x64x256 : Shape := ⟨4, ![18, 128, 64, 256]⟩
abbrev S18x128 : Shape := ⟨2, ![18, 128]⟩
abbrev S12 : Shape := ⟨1, ![12]⟩
abbrev S12x1x128 : Shape := ⟨3, ![12, 1, 128]⟩
abbrev S1x128 : Shape := ⟨2, ![1, 128]⟩
abbrev S18x1x128 : Shape := ⟨3, ![18, 1, 128]⟩
abbrev S12x128x64x256 : Shape := ⟨4, ![12, 128, 64, 256]⟩
abbrev S1x128x64 : Shape := ⟨3, ![1, 128, 64]⟩
abbrev S1x1x128 : Shape := ⟨3, ![1, 1, 128]⟩
abbrev S1x8x256 : Shape := ⟨3, ![1, 8, 256]⟩
abbrev S1x128x64x256 : Shape := ⟨4, ![1, 128, 64, 256]⟩
abbrev S1 : Shape := ⟨1, ![1]⟩
abbrev S64x128 : Shape := ⟨2, ![64, 128]⟩
abbrev S128x128 : Shape := ⟨2, ![128, 128]⟩
abbrev S128x64 : Shape := ⟨2, ![128, 64]⟩
abbrev S8x256 : Shape := ⟨2, ![8, 256]⟩
abbrev S8 : Shape := ⟨1, ![8]⟩
abbrev S8x1 : Shape := ⟨2, ![8, 1]⟩
abbrev S128x64x256 : Shape := ⟨3, ![128, 64, 256]⟩
abbrev S8192x256 : Shape := ⟨2, ![8192, 256]⟩
abbrev S8x8192 : Shape := ⟨2, ![8, 8192]⟩
abbrev S1x64 : Shape := ⟨2, ![1, 64]⟩
abbrev S1x1 : Shape := ⟨2, ![1, 1]⟩
abbrev S16x64 : Shape := ⟨2, ![16, 64]⟩
abbrev S1x1x256 : Shape := ⟨3, ![1, 1, 256]⟩
abbrev S1x256 : Shape := ⟨2, ![1, 256]⟩
abbrev S1x1x64x256 : Shape := ⟨4, ![1, 1, 64, 256]⟩
abbrev S64x256 : Shape := ⟨2, ![64, 256]⟩
abbrev S64x1 : Shape := ⟨2, ![64, 1]⟩
abbrev S1x64x256 : Shape := ⟨3, ![1, 64, 256]⟩
abbrev S1x1x1 : Shape := ⟨3, ![1, 1, 1]⟩
abbrev S1x246 : Shape := ⟨2, ![1, 246]⟩

abbrev nBuf : Space → Nat
  | .hbm => 18
  | .vmem => 24
  | .smem => 1
  | _ => 0

abbrev bufTy : (tb : Table) → Fin (tcTables nBuf tb) → BufTy
  | .hbm, ⟨0, _⟩ => ⟨S12x128x64, .bf16⟩
  | .hbm, ⟨1, _⟩ => ⟨S12x128, .bf16⟩
  | .hbm, ⟨2, _⟩ => ⟨S128, .f32⟩
  | .hbm, ⟨3, _⟩ => ⟨S128, .f32⟩
  | .hbm, ⟨4, _⟩ => ⟨S12x8x256, .bf16⟩
  | .hbm, ⟨5, _⟩ => ⟨S12x8x256, .bf16⟩
  | .hbm, ⟨6, _⟩ => ⟨S128, .f32⟩
  | .hbm, ⟨7, _⟩ => ⟨S18x128x64x256, .fp8e4m3⟩
  | .hbm, ⟨8, _⟩ => ⟨S18x128, .f32⟩
  | .hbm, ⟨9, _⟩ => ⟨S12x1x128, .bf16⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S18x1x128, .f32⟩
  | .hbm, ⟨14, _⟩ => ⟨S12x128x64, .bf16⟩
  | .hbm, ⟨15, _⟩ => ⟨S12x128x64x256, .fp8e4m3⟩
  | .hbm, ⟨16, _⟩ => ⟨S12x1x128, .f32⟩
  | .hbm, ⟨17, _⟩ => ⟨S12x128, .f32⟩
  | .local _ .vmem, ⟨0, _⟩ => ⟨S1x128x64, .bf16⟩
  | .local _ .vmem, ⟨1, _⟩ => ⟨S1x128x64, .bf16⟩
  | .local _ .vmem, ⟨2, _⟩ => ⟨S1x1x128, .bf16⟩
  | .local _ .vmem, ⟨3, _⟩ => ⟨S1x1x128, .bf16⟩
  | .local _ .vmem, ⟨4, _⟩ => ⟨S1x128, .f32⟩
  | .local _ .vmem, ⟨5, _⟩ => ⟨S1x128, .f32⟩
  | .local _ .vmem, ⟨6, _⟩ => ⟨S1x8x256, .bf16⟩
  | .local _ .vmem, ⟨7, _⟩ => ⟨S1x8x256, .bf16⟩
  | .local _ .vmem, ⟨8, _⟩ => ⟨S1x8x256, .bf16⟩
  | .local _ .vmem, ⟨9, _⟩ => ⟨S1x8x256, .bf16⟩
  | .local _ .vmem, ⟨10, _⟩ => ⟨S1x128, .f32⟩
  | .local _ .vmem, ⟨11, _⟩ => ⟨S1x128x64x256, .fp8e4m3⟩
  | .local _ .vmem, ⟨12, _⟩ => ⟨S1x128x64x256, .fp8e4m3⟩
  | .local _ .vmem, ⟨13, _⟩ => ⟨S1x1x128, .f32⟩
  | .local _ .vmem, ⟨14, _⟩ => ⟨S1x1x128, .f32⟩
  | .local _ .vmem, ⟨15, _⟩ => ⟨S1x128x64, .bf16⟩
  | .local _ .vmem, ⟨16, _⟩ => ⟨S1x128x64, .bf16⟩
  | .local _ .vmem, ⟨17, _⟩ => ⟨S1x128x64x256, .fp8e4m3⟩
  | .local _ .vmem, ⟨18, _⟩ => ⟨S1x128x64x256, .fp8e4m3⟩
  | .local _ .vmem, ⟨19, _⟩ => ⟨S1x1x128, .f32⟩
  | .local _ .vmem, ⟨20, _⟩ => ⟨S1x1x128, .f32⟩
  | .local _ .vmem, ⟨21, _⟩ => ⟨S64x128, .f32⟩
  | .local _ .vmem, ⟨22, _⟩ => ⟨S128x128, .f32⟩
  | .local _ .vmem, ⟨23, _⟩ => ⟨S128x128, .f32⟩
  | .local _ .smem, ⟨0, _⟩ => ⟨S12, .i32⟩
  | _, _ => ⟨S12x128x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![12], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (k0_off1_inb : ∀ i : grid0.Coords, ∀ a, (k0_off1 i) a + S1.size a ≤ S12.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S12) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_8 (k0_off1_inb : ∀ i : grid0.Coords, ∀ a, (k0_off1 i) a + S1.size a ≤ S12.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S12) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x64x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x64x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S12x128x64 : Shape := ⟨3, ![12, 128, 64]⟩
abbrev S12x128 : Shape := ⟨2, ![12, 128]⟩
abbrev S128 : Shape := ⟨1, ![128]⟩
abbrev S12x8x256 : Shape := ⟨3, ![12, 8, 256]⟩
abbrev S18x128x64x256 : Shape := ⟨4, ![18, 128, 64, 256]⟩
abbrev S18x128 : Shape := ⟨2, ![18, 128]⟩
abbrev S12 : Shape := ⟨1, ![12]⟩
abbrev S_ : Shape := ⟨0, ![]⟩
abbrev S12x1 : Shape := ⟨2, ![12, 1]⟩
abbrev S12x128x64x256 : Shape := ⟨4, ![12, 128, 64, 256]⟩
abbrev S12x128x1x1 : Shape := ⟨4, ![12, 128, 1, 1]⟩
abbrev S1x128 : Shape := ⟨2, ![1, 128]⟩
abbrev S12x8x1x256 : Shape := ⟨4, ![12, 8, 1, 256]⟩
abbrev S12x8x16x256 : Shape := ⟨4, ![12, 8, 16, 256]⟩
abbrev S12x128x256 : Shape := ⟨3, ![12, 128, 256]⟩
abbrev S12x128x1 : Shape := ⟨3, ![12, 128, 1]⟩
abbrev S12x128x64x1 : Shape := ⟨4, ![12, 128, 64, 1]⟩
abbrev S12x128x1x256 : Shape := ⟨4, ![12, 128, 1, 256]⟩
abbrev S1x128x1 : Shape := ⟨3, ![1, 128, 1]⟩

abbrev nBuf : Space → Nat
  | .hbm => 31
  | .vmem => 12
  | .smem => 0
  | _ => 0

abbrev bufTy : (tb : Table) → Fin (tcTables nBuf tb) → BufTy
  | .hbm, ⟨0, _⟩ => ⟨S12x128x64, .bf16⟩
  | .hbm, ⟨1, _⟩ => ⟨S12x128, .bf16⟩
  | .hbm, ⟨2, _⟩ => ⟨S128, .f32⟩
  | .hbm, ⟨3, _⟩ => ⟨S128, .f32⟩
  | .hbm, ⟨4, _⟩ => ⟨S12x8x256, .bf16⟩
  | .hbm, ⟨5, _⟩ => ⟨S12x8x256, .bf16⟩
  | .hbm, ⟨6, _⟩ => ⟨S128, .f32⟩
  | .hbm, ⟨7, _⟩ => ⟨S18x128x64x256, .fp8e4m3⟩
  | .hbm, ⟨8, _⟩ => ⟨S18x128, .f32⟩
  | .hbm, ⟨9, _⟩ => ⟨S12, .i32⟩
  | .hbm, ⟨10, _⟩ => ⟨S_, .i32⟩
  | .hbm, ⟨11, _⟩ => ⟨S12, .i32⟩
  | .hbm, ⟨12, _⟩ => ⟨S12, .i1⟩
  | .hbm, ⟨13, _⟩ => ⟨S_, .i32⟩
  | .hbm, ⟨14, _⟩ => ⟨S12, .i32⟩
  | .hbm, ⟨15, _⟩ => ⟨S12, .i32⟩
  | .hbm, ⟨16, _⟩ => ⟨S12, .i32⟩
  | .hbm, ⟨17, _⟩ => ⟨S12x1, .i32⟩
  | .hbm, ⟨18, _⟩ => ⟨S12x128x64x256, .fp8e4m3⟩
  | .hbm, ⟨19, _⟩ => ⟨S_, .i32⟩
  | .hbm, ⟨20, _⟩ => ⟨S12, .i32⟩
  | .hbm, ⟨21, _⟩ => ⟨S12, .i1⟩
  | .hbm, ⟨22, _⟩ => ⟨S_, .i32⟩
  | .hbm, ⟨23, _⟩ => ⟨S12, .i32⟩
  | .hbm, ⟨24, _⟩ => ⟨S12, .i32⟩
  | .hbm, ⟨25, _⟩ => ⟨S12, .i32⟩
  | .hbm, ⟨26, _⟩ => ⟨S12x1, .i32⟩
  | .hbm, ⟨27, _⟩ => ⟨S12x128, .f32⟩
  | .hbm, ⟨28, _⟩ => ⟨S12x128x64, .bf16⟩
  | .hbm, ⟨29, _⟩ => ⟨S12x128x64x256, .fp8e4m3⟩
  | .hbm, ⟨30, _⟩ => ⟨S12x128, .f32⟩
  | .local _ .vmem, ⟨0, _⟩ => ⟨S12x128x64, .bf16⟩
  | .local _ .vmem, ⟨1, _⟩ => ⟨S12x128, .bf16⟩
  | .local _ .vmem, ⟨2, _⟩ => ⟨S128, .f32⟩
  | .local _ .vmem, ⟨3, _⟩ => ⟨S128, .f32⟩
  | .local _ .vmem, ⟨4, _⟩ => ⟨S12x8x256, .bf16⟩
  | .local _ .vmem, ⟨5, _⟩ => ⟨S12x8x256, .bf16⟩
  | .local _ .vmem, ⟨6, _⟩ => ⟨S128, .f32⟩
  | .local _ .vmem, ⟨7, _⟩ => ⟨S12x128x64x256, .fp8e4m3⟩
  | .local _ .vmem, ⟨8, _⟩ => ⟨S12x128, .f32⟩
  | .local _ .vmem, ⟨9, _⟩ => ⟨S12x128x64, .bf16⟩
  | .local _ .vmem, ⟨10, _⟩ => ⟨S12x128x64x256, .fp8e4m3⟩
  | .local _ .vmem, ⟨11, _⟩ => ⟨S12x128, .f32⟩
  | _, _ => ⟨S12x128x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S12x128x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x8x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x8x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x128x64x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x128x64x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Pre.lean ====
module

public import proofs.«01_k».proof.Defs
public import proofs.«01_k».proof.Proof.Gen.Pre_slots_in_pool
public import proofs.«01_k».proof.Proof.Gen.Pre_finite_step_inputs
public import Idealize.ShloMosaic.PureOps.Reduce
public import Idealize.ShloMosaic.PureOps.Ideal.Laws
public import Idealize.ShloMosaic.Lib.WordCmp

@[expose] public section

set_option maxRecDepth 16384

noncomputable section

/-! The two preconditions, decoded into facts about single elements. -/

namespace Cert.Pre

open Idealize.ShloMosaic Idealize.SL.Sem

/-- A conjunction of two bits holds when both hold. -/
theorem andi_one (a b : BitVec 1) : IntOp.andi a b = 1#1 ↔ a = 1#1 ∧ b = 1#1 := by revert a b; decide

/-- A conjunction over a whole array that holds, holds at every element. -/
theorem reduce_and {s : Shape} {axes : List (Fin s.rank)} (x : s.Idx → BitVec 1) (init : Shape.Idx ⟨0, ![]⟩ → BitVec 1)
    (h : s.ReducesTo axes ⟨0, ![]⟩) (hu : 0 < Shape.numel ⟨0, ![]⟩) (j : Shape.Idx ⟨0, ![]⟩)
    (e : Host.reduce IntOp.andi x init h hu j = 1#1) (i : s.Idx) : x i = 1#1 := by
  rw [Host.reduce_eq_fold] at e
  have hi : i ∈ Finset.univ.filter fun i => h.drop i = j := by
    simp only [Finset.mem_filter, Finset.mem_univ, true_and]
    funext a; exact a.elim0
  revert hi e
  generalize (Finset.univ.filter fun i => h.drop i = j) = T
  induction T using Finset.induction_on with
  | empty => intro _ hi; simp at hi
  | insert k T hk ih =>
    intro e hi
    rw [Finset.fold_insert hk, andi_one] at e
    rcases Finset.mem_insert.1 hi with rfl | hi
    · exact e.1
    · exact ih e.2 hi

/-- A word that is at least zero and below eighteen, read signed, is below eighteen. -/
theorem word_lt (w : BitVec 32) (h0 : IntOp.cmpi .sge w 0#32 = 1#1) (h1 : IntOp.cmpi .slt w 18#32 = 1#1) : w.toNat < 18 := by
  have h : IntOp.andi (IntOp.cmpi .sge w 0#32) (IntOp.cmpi .slt w (BitVec.ofNat 32 18)) = 1#1 := (andi_one _ _).2 ⟨h0, h1⟩
  rw [WordCmp.andi_sge_zero_slt_ofNat (by norm_num)] at h
  by_contra hn
  rw [decide_eq_false hn] at h
  exact absurd h (by decide)

/-- Under `slots_in_pool` every slot number is below eighteen. -/
theorem slots {F : FTy → Type} [FloatOps F] (a0 a1 a2 a3 a4 a5 a6 a7 a8) (a9 : IVec Cert.Pre_slots_in_pool.S12 32)
    (h : Cert.Pre_slots_in_pool.fn (F := F) a0 a1 a2 a3 a4 a5 a6 a7 a8 a9 = fun _ => 1#1) (b : Cert.Pre_slots_in_pool.S12.Idx) :
    (a9 b).toNat < 18 := by
  have h := congrFun h (fun a => a.elim0)
  have e := reduce_and _ _ _ _ _ h b
  have e : IntOp.andi (IntOp.cmpi .sge (a9 b) 0#32) (IntOp.cmpi .slt (a9 b) 18#32) = 1#1 := e
  exact word_lt _ ((andi_one _ _).1 e).1 ((andi_one _ _).1 e).2

/-- An extended real strictly between the two infinities is a real. -/
theorem real_of_lt {x lo hi : EReal} (h0 : lo < x) (h1 : x < hi) : ∃ r : ℝ, x = r := by
  induction x with
  | bot => exact absurd h0 (not_lt_bot)
  | top => exact absurd h1 (not_top_lt)
  | coe r => exact ⟨r, rfl⟩

/-- What `finite_step_inputs` says of the arrays, element by element. -/
structure Step (a0 : FVec Ideal Cert.Pre_finite_step_inputs.S12x128x64 .bf16) (a1 : FVec Ideal Cert.Pre_finite_step_inputs.S12x128 .bf16)
    (a2 : FVec Ideal Cert.Pre_finite_step_inputs.S128 .f32) (a4 a5 : FVec Ideal Cert.Pre_finite_step_inputs.S12x8x256 .bf16)
    (a8 : FVec Ideal Cert.Pre_finite_step_inputs.S18x128 .f32) (a9 : IVec Cert.Pre_finite_step_inputs.S12 32) : Prop where
  ids : ∀ b, (a9 b).toNat < 18
  x : ∀ i, ∃ r : ℝ, (a0 i : EReal) = r
  dt : ∀ i, ∃ r : ℝ, (a1 i : EReal) = r
  bias : ∀ i, ∃ r : ℝ, (a2 i : EReal) = r
  B : ∀ i, ∃ r : ℝ, (a4 i : EReal) = r
  C : ∀ i, ∃ r : ℝ, (a5 i : EReal) = r
  scale : ∀ i, ∃ r : ℝ, 0 ≤ r ∧ (a8 i : EReal) = r

/-- A value between two bounds, strictly, is a real number. -/
theorem fin_one {f : FTy} {x lo hi : Ideal f} (h : IntOp.andi (FloatOps.cmpf .ogt x lo) (FloatOps.cmpf .olt x hi) = 1#1) :
    ∃ r : ℝ, (x : EReal) = r := by
  obtain ⟨h0, h1⟩ := (andi_one _ _).1 h
  have h0 : BitVec.ofBool (decide ((lo : EReal) < x)) = 1#1 := h0
  have h1 : BitVec.ofBool (decide ((x : EReal) < hi)) = 1#1 := h1
  have g : ∀ {q : Prop} [Decidable q], BitVec.ofBool (decide q) = 1#1 → q := by
    intro q _ h; by_contra hn; rw [decide_eq_false hn] at h; exact absurd h (by decide)
  exact real_of_lt (g h0) (g h1)

/-- A value at least zero and below a bound is a real number that is not negative. -/
theorem nonneg_one {x lo hi : Ideal .f32} (hl : (lo : EReal) = 0) (h : IntOp.andi (FloatOps.cmpf .oge x lo) (FloatOps.cmpf .olt x hi) = 1#1) :
    ∃ r : ℝ, 0 ≤ r ∧ (x : EReal) = r := by
  obtain ⟨h0, h1⟩ := (andi_one _ _).1 h
  have h0 : BitVec.ofBool (decide ((lo : EReal) ≤ x)) = 1#1 := h0
  have h1 : BitVec.ofBool (decide ((x : EReal) < hi)) = 1#1 := h1
  have g : ∀ {q : Prop} [Decidable q], BitVec.ofBool (decide q) = 1#1 → q := by
    intro q _ h; by_contra hn; rw [decide_eq_false hn] at h; exact absurd h (by decide)
  have h0 := g h0; have h1 := g h1
  rw [hl] at h0
  obtain ⟨r, hr⟩ := real_of_lt (lt_of_lt_of_le EReal.bot_lt_zero h0) h1
  exact ⟨r, by rw [hr] at h0; exact_mod_cast h0, hr⟩

/-- `finite_step_inputs` decoded. -/
theorem step (a0 a1 a2 a3 a4 a5 a6 a7 a8 a9)
    (h : Cert.Pre_finite_step_inputs.fn (F := Ideal) a0 a1 a2 a3 a4 a5 a6 a7 a8 a9 = fun _ => 1#1) : Step a0 a1 a2 a4 a5 a8 a9 := by
  have h := congrFun h (fun a => a.elim0)
  obtain ⟨h, h8⟩ := (andi_one _ _).1 h
  obtain ⟨h, h5⟩ := (andi_one _ _).1 h
  obtain ⟨h, h4⟩ := (andi_one _ _).1 h
  obtain ⟨h, h2⟩ := (andi_one _ _).1 h
  obtain ⟨h, h1⟩ := (andi_one _ _).1 h
  obtain ⟨h9, h0⟩ := (andi_one _ _).1 h
  refine ⟨fun b => ?_, fun i => fin_one (reduce_and _ _ _ _ _ h0 i), fun i => fin_one (reduce_and _ _ _ _ _ h1 i),
    fun i => fin_one (reduce_and _ _ _ _ _ h2 i), fun i => fin_one (reduce_and _ _ _ _ _ h4 i),
    fun i => fin_one (reduce_and _ _ _ _ _ h5 i), fun i => nonneg_one Ideal.ofBits_zero_f32 (reduce_and _ _ _ _ _ h8 i)⟩
  have e := reduce_and _ _ _ _ _ h9 b
  have e : IntOp.andi (IntOp.cmpi .sge (a9 b) 0#32) (IntOp.cmpi .slt (a9 b) 18#32) = 1#1 := e
  exact word_lt _ ((andi_one _ _).1 e).1 ((andi_one _ _).1 e).2

end Cert.Pre

end
-- ==== Proof.SlotsBits.lean ====
module

public import proofs.«01_k».proof.Proof.Pre
public import proofs.«01_k».proof.Proof.Gen.Kernel.Frame.Runs

@[expose] public section

set_option maxRecDepth 16384

noncomputable section

/-! The slot numbers in the pool make every window's block lie inside its array. -/

namespace Cert.Kernel.Slots

open Idealize.ShloMosaic Idealize.SL.Sem Cert.Kernel Cert.Kernel.Gen

variable {F : FTy → Type} [FloatOps F]

/-- The block of the state's codes at a slot below eighteen. -/
theorem block7 (k : Fin 18) : ∃ h : (∀ a, ((![k.val, 0, 0, 0] : Fin 4 → Nat) a + 1) * S1x128x64x256.size a ≤ S18x128x64x256.size a),
    EltTy.bits .fp8e4m3 = 32 ∨ (Rect.block (s := S18x128x64x256) S1x128x64x256.size (![k.val, 0, 0, 0] : Fin 4 → Nat) h).WholeWords (EltTy.packing .fp8e4m3) := by
  revert k; decide +kernel

/-- The block of the state's scales at a slot below eighteen. -/
theorem block8 (k : Fin 18) : ∃ h : (∀ a, ((![k.val, 0, 0] : Fin 3 → Nat) a + 1) * S1x1x128.size a ≤ S18x1x128.size a),
    EltTy.bits .f32 = 32 ∨ (Rect.block (s := S18x1x128) S1x1x128.size (![k.val, 0, 0] : Fin 3 → Nat) h).WholeWords (EltTy.packing .f32) := by
  revert k; decide +kernel

/-- Tables with every entry below eighteen meet the windows' side condition. -/
theorem ok_of_lt (pf : pre0.Contents (Elt F)) (h : ∀ b, (pf 0 b : BitVec 32).toNat < 18) : ok0 pf :=
  ⟨fun i => block7 ⟨_, h _⟩, fun i => block8 ⟨_, h _⟩⟩

end Cert.Kernel.Slots

end
-- ==== Proof.SlotsIdeal.lean ====
module

public import proofs.«01_k».proof.Proof.Pre
public import proofs.«01_k».proof.Proof.Gen.KernelIdeal.Frame.Runs

@[expose] public section

set_option maxRecDepth 16384

noncomputable section

/-! The slot numbers in the pool make every window's block lie inside its array. -/

namespace Cert.KernelIdeal.Slots

open Idealize.ShloMosaic Idealize.SL.Sem Cert.KernelIdeal Cert.KernelIdeal.Gen

variable {F : FTy → Type} [FloatOps F]

/-- The block of the state's codes at a slot below eighteen. -/
theorem block7 (k : Fin 18) : ∃ h : (∀ a, ((![k.val, 0, 0, 0] : Fin 4 → Nat) a + 1) * S1x128x64x256.size a ≤ S18x128x64x256.size a),
    EltTy.bits .fp8e4m3 = 32 ∨ (Rect.block (s := S18x128x64x256) S1x128x64x256.size (![k.val, 0, 0, 0] : Fin 4 → Nat) h).WholeWords (EltTy.packing .fp8e4m3) := by
  revert k; decide +kernel

/-- The block of the state's scales at a slot below eighteen. -/
theorem block8 (k : Fin 18) : ∃ h : (∀ a, ((![k.val, 0, 0] : Fin 3 → Nat) a + 1) * S1x1x128.size a ≤ S18x1x128.size a),
    EltTy.bits .f32 = 32 ∨ (Rect.block (s := S18x1x128) S1x1x128.size (![k.val, 0, 0] : Fin 3 → Nat) h).WholeWords (EltTy.packing .f32) := by
  revert k; decide +kernel

/-- Tables with every entry below eighteen meet the windows' side condition. -/
theorem ok_of_lt (pf : pre0.Contents (Elt F)) (h : ∀ b, (pf 0 b : BitVec 32).toNat < 18) : ok0 pf :=
  ⟨fun i => block7 ⟨_, h _⟩, fun i => block8 ⟨_, h _⟩⟩

end Cert.KernelIdeal.Slots

end
-- ==== Proof.Heads.lean ====
module

public import proofs.«01_k».proof.Proof.Gen.KernelIdeal.Frame
public import Idealize.ShloMosaic.Lib.WholeRead
public import Idealize.ShloMosaic.Lib.Pipeline.Value

@[expose] public section

set_option maxRecDepth 100000

noncomputable section

/-! The heads of the kernel's unrolled loop, all one function of the head's number. -/

namespace Cert.KernelIdeal.Heads

open Idealize.ShloMosaic Idealize.ShloMosaic.TcCoe Idealize.SL.Sem Cert.KernelIdeal Cert.KernelIdeal.Gen

variable {F : FTy → Type} [FloatOps F]

/-- A head's codes lie within the block of codes. -/
theorem inbQ (h : ℕ) (hh : h < 128) : ∀ a : Fin 4, (![0, h, 0, 0] : Fin 4 → ℕ) a + (![1, 1, 64, 256] : Fin 4 → ℕ) a ≤ S1x128x64x256.size a
  | 0 => Nat.le_refl _
  | 1 => by show h + 1 ≤ 128; omega
  | 2 => Nat.le_refl _
  | 3 => Nat.le_refl _
/-- A head's single entry lies within the square of factors. -/
theorem inbS (h : ℕ) (hh : h < 128) : ∀ a : Fin 2, (![h, 0] : Fin 2 → ℕ) a + (![1, 1] : Fin 2 → ℕ) a ≤ S128x128.size a
  | 0 => by show h + 1 ≤ 128; omega
  | 1 => by show 0 + 1 ≤ 128; omega
/-- A head's row lies within the scale scratch. -/
theorem inbR (h : ℕ) (hh : h < 128) : ∀ a : Fin 2, (![h, 0] : Fin 2 → ℕ) a + (![1, 128] : Fin 2 → ℕ) a ≤ S128x128.size a
  | 0 => by show h + 1 ≤ 128; omega
  | 1 => Nat.le_refl _
/-- A head's column lies within the scratch of `delta * x`. -/
theorem inbD (h : ℕ) (hh : h < 128) : ∀ a : Fin 2, (![0, h] : Fin 2 → ℕ) a + (![64, 1] : Fin 2 → ℕ) a ≤ S64x128.size a
  | 0 => Nat.le_refl _
  | 1 => by show h + 1 ≤ 128; omega
/-- A group's row lies within the block of `B`. -/
theorem inbB (g : ℕ) (hg : g < 8) : ∀ a : Fin 3, (![0, g, 0] : Fin 3 → ℕ) a + (![1, 1, 256] : Fin 3 → ℕ) a ≤ S1x8x256.size a
  | 0 => Nat.le_refl _
  | 1 => by show g + 1 ≤ 8; omega
  | 2 => Nat.le_refl _

/-- One head's new state, from its row of `B`, its codes, its factor and its column of `delta * x`. -/
abbrev newState (b : FVec F S1x256 .f32) (q : Vec F S1x1x64x256 .fp8e4m3) (s : Vec F S1x1 .f32) (d : Vec F S64x1 .f32) : FVec F S64x256 .f32 :=
  k0_pay103 b q s d
/-- One head's row of the scale scratch. -/
abbrev scaleRow (b : FVec F S1x256 .f32) (q : Vec F S1x1x64x256 .fp8e4m3) (s : Vec F S1x1 .f32) (d : Vec F S64x1 .f32) : FVec F S1x128 .f32 :=
  k0_pay107 (k0_pay104 b q s d) (k0_pay105 b q s d)
/-- One head's stored codes. -/
abbrev newCodes (b : FVec F S1x256 .f32) (q : Vec F S1x1x64x256 .fp8e4m3) (s : Vec F S1x1 .f32) (d : Vec F S64x1 .f32) : FVec F S1x1x64x256 .fp8e4m3 :=
  k0_pay108 (k0_pay103 b q s d) (k0_pay104 b q s d) (k0_pay105 b q s d)

section
variable (c : Dev nD) (i : grid0.Coords) (arg2 : Memref sig .tc .vmem S1x128x64 .bf16) (harg2 : arg2.IsWhole) (arg3 : Memref sig .tc .vmem S1x1x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x8x256 .bf16) (harg6 : arg6.IsWhole) (arg7 : Memref sig .tc .vmem S1x8x256 .bf16) (harg7 : arg7.IsWhole) (arg8 : Memref sig .tc .vmem S1x128 .f32) (harg8 : arg8.IsWhole) (arg9 : Memref sig .tc .vmem S1x128x64x256 .fp8e4m3) (harg9 : arg9.IsWhole) (arg10 : Memref sig .tc .vmem S1x1x128 .f32) (harg10 : arg10.IsWhole) (arg11 : Memref sig .tc .vmem S1x128x64 .bf16) (harg11 : arg11.IsWhole) (arg12 : Memref sig .tc .vmem S1x128x64x256 .fp8e4m3) (harg12 : arg12.IsWhole) (arg13 : Memref sig .tc .vmem S1x1x128 .f32) (harg13 : arg13.IsWhole) (arg14 : Memref sig .tc .vmem S64x128 .f32) (harg14 : arg14.IsWhole) (arg15 : Memref sig .tc .vmem S128x128 .f32) (harg15 : arg15.IsWhole) (arg16 : Memref sig .tc .vmem S128x128 .f32) (harg16 : arg16.IsWhole)
  (x0 : Vec F S1x128x64 .bf16) (x1 : Vec F S1x1x128 .bf16) (x2 : Vec F S1x128 .f32) (x3 : Vec F S1x128 .f32) (x4 : Vec F S1x8x256 .bf16) (x5 : Vec F S1x8x256 .bf16) (x6 : Vec F S1x128 .f32) (x7 : Vec F S1x128x64x256 .fp8e4m3) (x8 : Vec F S1x1x128 .f32) (xt0 : TbBuf0 (F := F) c tbM0_0)

/-- Head `h`'s codes as the body loads them. -/
def codesAt (h : ℕ) (hh : h < 128) : Vec F S1x1x64x256 .fp8e4m3 :=
  View.readAt (Elt F) arg9.view (Rect.unit ![0, h, 0, 0] S1x1x64x256.size (inbQ h hh) : Rect S1x128x64x256).toLoadRect (harg9.unread x7)
/-- Head `h`'s factor, read back from its scratch. -/
def factorAt (h : ℕ) (hh : h < 128) : Vec F S1x1 .f32 :=
  arg15.view.readCov (kernelRun0_A.sl.HS1_1 c arg3 harg3 arg4 harg4 arg5 harg5 arg10 harg10 x1 x2 x3 x8) (Rect.unit ![h, 0] S1x1.size (inbS h hh) : Rect S128x128).toLoadRect
/-- Head `h`'s column of `delta * x`, read back from its scratch. -/
def driveAt (h : ℕ) (hh : h < 128) : Vec F S64x1 .f32 :=
  arg14.view.readCov (kernelRun0_A.sl.HS0_1 c arg2 harg2 arg3 harg3 arg4 harg4 x0 x1 x2) (Rect.unit ![0, h] S64x1.size (inbD h hh) : Rect S64x128).toLoadRect
/-- Group `g`'s row of `B`. -/
def rowB (g : ℕ) (hg : g < 8) : FVec F S1x256 .f32 :=
  k0_pay96 (View.readAt (Elt F) arg6.view (Rect.unit ![0, g, 0] S1x1x256.size (inbB g hg) : Rect S1x8x256).toLoadRect (harg6.unread x4))

/-- What head `h` stores of the codes. -/
def codesPiece (h : ℕ) (hh : h < 128) : View.Piece (Elt F) S1x128x64x256 .fp8e4m3 :=
  ⟨Rect.unit ![0, h, 0, 0] ![1, 1, 64, 256] (inbQ h hh),
    newCodes (rowB arg6 harg6 x4 (h / 16) (by omega)) (codesAt arg9 harg9 x7 h hh)
      (factorAt c arg3 harg3 arg4 harg4 arg5 harg5 arg10 harg10 arg15 x1 x2 x3 x8 h hh) (driveAt c arg2 harg2 arg3 harg3 arg4 harg4 arg14 x0 x1 x2 h hh)⟩
/-- What head `h` stores in the scale scratch. -/
def scalePiece (h : ℕ) (hh : h < 128) : View.Piece (Elt F) S128x128 .f32 :=
  ⟨Rect.unit ![h, 0] ![1, 128] (inbR h hh),
    scaleRow (rowB arg6 harg6 x4 (h / 16) (by omega)) (codesAt arg9 harg9 x7 h hh)
      (factorAt c arg3 harg3 arg4 harg4 arg5 harg5 arg10 harg10 arg15 x1 x2 x3 x8 h hh) (driveAt c arg2 harg2 arg3 harg3 arg4 harg4 arg14 x0 x1 x2 h hh)⟩

/-- Every store of the codes is some head's. -/
theorem codes_pieces : ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xt0).2.1, ∃ (h : ℕ) (hh : h < 128), p = codesPiece c arg2 harg2 arg3 harg3 arg4 harg4 arg5 harg5 arg6 harg6 arg9 harg9 arg10 harg10 arg14 arg15 x0 x1 x2 x3 x4 x7 x8 h hh := by
  unfold kernelRun0_A
  dsimp only
  iterate 128 refine List.forall_mem_cons.2 ⟨⟨_, Nat.lt_of_lt_of_le (Nat.lt_succ_self _) (by decide), rfl⟩, ?_⟩
  exact List.forall_mem_nil _

/-- Every store into the scale scratch is some head's. -/
theorem scale_pieces : ∀ p ∈ kernelRun0_A.sl.HS2_128 c arg2 harg2 arg3 harg3 arg4 harg4 arg5 harg5 arg6 harg6 arg9 harg9 arg10 harg10 arg14 arg15 x0 x1 x2 x3 x4 x7 x8, ∃ (h : ℕ) (hh : h < 128), p = scalePiece c arg2 harg2 arg3 harg3 arg4 harg4 arg5 harg5 arg6 harg6 arg9 harg9 arg10 harg10 arg14 arg15 x0 x1 x2 x3 x4 x7 x8 h hh := by
  unfold kernelRun0_A.sl.HS2_128
  iterate 128 refine List.forall_mem_cons.2 ⟨⟨_, Nat.lt_of_lt_of_le (Nat.lt_succ_self _) (by decide), rfl⟩, ?_⟩
  exact List.forall_mem_nil _

omit [FloatOps F] in
/-- A head's piece lies within the product of the codes with `C`. -/
theorem slicesRow (h : ℕ) (hh : h < 128) : S8x8192.Slices ![h / 16, 64 * h] S1x64 :=
  ⟨rfl, fun a => match a with
    | 0 => by show h / 16 + 1 ≤ 8; omega
    | 1 => by show 64 * h + 64 ≤ 8192; omega⟩

/-- Head `h`'s row of the product of the codes with `C`. -/
def yRow (p : FVec F S8x8192 .f32) (h : Fin 128) : FVec F S1x64 .f32 :=
  extractStridedSlice S1x64 ![h.val / 16, 64 * h.val] p (slicesRow h.val h.isLt)

/-- The heads' rows stack to the whole array. -/
theorem concatRows (p : FVec F S8x8192 .f32) : Shape.Concatenates ((List.ofFn fun k : Fin 128 => (⟨S1x64, yRow p k⟩ : (s : Shape) × (s.Idx → F .f32))).map (·.1)) S128x64 0 := by
  rw [List.map_ofFn]
  show Shape.Concatenates (List.ofFn fun _ : Fin 128 => S1x64) S128x64 0
  decide +kernel

/-- The rows stacked are the heads' rows in their order. -/
theorem y_rows : kernelRun0_A.sl.v191 c arg7 harg7 arg9 harg9 x5 x7
    = concatenate S128x64 0 (List.ofFn fun k : Fin 128 => ⟨S1x64, yRow (kernelRun0_A.sl.r_4 c arg7 harg7 arg9 harg9 x5 x7) k⟩) (concatRows _) := by
  rfl

end

end Cert.KernelIdeal.Heads

end
-- ==== Proof.HeadsOut.lean ====
module

public import proofs.«01_k».proof.Proof.Heads
public import Idealize.ShloMosaic.Lib.Pointwise

@[expose] public section

set_option maxRecDepth 16384

noncomputable section

/-! What the body leaves in its three output blocks, one element at a time, as functions of its input blocks. -/

namespace Cert.KernelIdeal.Heads

open Idealize.ShloMosaic Idealize.ShloMosaic.TcCoe Idealize.SL.Sem Cert.KernelIdeal Cert.KernelIdeal.Gen

variable {F : FTy → Type} [FloatOps F]

/-- A whole load of a whole block reads the block. -/
theorem readAt_whole {s : Shape} {e : EltTy} {m : Memref sig .tc .vmem s e} (h : m.IsWhole) (X : Vec F s e)
    {off : Fin s.rank → ℕ} (h0 : off = fun _ => 0) (inb : ∀ a, off a + s.size a ≤ s.size a) :
    View.readAt (Elt F) m.view (Rect.unit off s.size inb).toLoadRect (h.unread X) = X := by
  subst h0
  funext x
  refine (h.readAt_unread X _ x).trans (congrArg X (funext fun a => Fin.ext ?_))
  show 0 + 1 * (x a).val = (x a).val
  omega

/-- The origin in two axes. -/
theorem off2 : (![0, 0] : Fin 2 → ℕ) = fun _ => 0 := by funext a; fin_cases a <;> rfl
/-- The origin in three axes. -/
theorem off3 : (![0, 0, 0] : Fin 3 → ℕ) = fun _ => 0 := by funext a; fin_cases a <;> rfl
/-- The origin in four axes. -/
theorem off4 : (![0, 0, 0, 0] : Fin 4 → ℕ) = fun _ => 0 := by funext a; fin_cases a <;> rfl

/-! The pieces of one head, from the input blocks. -/

/-- Head `h`'s codes. -/
def codes (x7 : Vec F S1x128x64x256 .fp8e4m3) (h : Fin 128) : Vec F S1x1x64x256 .fp8e4m3 := fun x => x7 (ix4 0 h (x 2) (x 3))
/-- The factors `exp(-exp A * delta) * scale` of all heads, down the rows of a square. -/
def factors (x1 : Vec F S1x1x128 .bf16) (x2 x3 : Vec F S1x128 .f32) (x8 : Vec F S1x1x128 .f32) : Vec F S128x128 .f32 := k0_pay4 x1 x2 x3 x8
/-- Head `h`'s factor. -/
def factor (x1 : Vec F S1x1x128 .bf16) (x2 x3 : Vec F S1x128 .f32) (x8 : Vec F S1x1x128 .f32) (h : Fin 128) : Vec F S1x1 .f32 :=
  fun _ => factors x1 x2 x3 x8 (ix2 h 0)
/-- Head `h`'s column of `delta * x`. -/
def drive (x0 : Vec F S1x128x64 .bf16) (x1 : Vec F S1x1x128 .bf16) (x2 : Vec F S1x128 .f32) (h : Fin 128) : Vec F S64x1 .f32 :=
  fun x => k0_pay8 (k0_pay5 x0) (k0_pay6 x1 x2) (ix2 (x 0) h)
/-- Group `g`'s row of `B`. -/
def groupB (x4 : Vec F S1x8x256 .bf16) (g : Fin 8) : FVec F S1x256 .f32 := k0_pay96 fun x => x4 (ix3 0 g (x 2))
/-- The group of a head. -/
def group (h : Fin 128) : Fin 8 := ⟨h.val / 16, by omega⟩

section
variable (c : Dev nD) (i : grid0.Coords) (arg2 : Memref sig .tc .vmem S1x128x64 .bf16) (harg2 : arg2.IsWhole) (arg3 : Memref sig .tc .vmem S1x1x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x8x256 .bf16) (harg6 : arg6.IsWhole) (arg7 : Memref sig .tc .vmem S1x8x256 .bf16) (harg7 : arg7.IsWhole) (arg8 : Memref sig .tc .vmem S1x128 .f32) (harg8 : arg8.IsWhole) (arg9 : Memref sig .tc .vmem S1x128x64x256 .fp8e4m3) (harg9 : arg9.IsWhole) (arg10 : Memref sig .tc .vmem S1x1x128 .f32) (harg10 : arg10.IsWhole) (arg11 : Memref sig .tc .vmem S1x128x64 .bf16) (harg11 : arg11.IsWhole) (arg12 : Memref sig .tc .vmem S1x128x64x256 .fp8e4m3) (harg12 : arg12.IsWhole) (arg13 : Memref sig .tc .vmem S1x1x128 .f32) (harg13 : arg13.IsWhole) (arg14 : Memref sig .tc .vmem S64x128 .f32) (harg14 : arg14.IsWhole) (arg15 : Memref sig .tc .vmem S128x128 .f32) (harg15 : arg15.IsWhole) (arg16 : Memref sig .tc .vmem S128x128 .f32) (harg16 : arg16.IsWhole)
  (x0 : Vec F S1x128x64 .bf16) (x1 : Vec F S1x1x128 .bf16) (x2 : Vec F S1x128 .f32) (x3 : Vec F S1x128 .f32) (x4 : Vec F S1x8x256 .bf16) (x5 : Vec F S1x8x256 .bf16) (x6 : Vec F S1x128 .f32) (x7 : Vec F S1x128x64x256 .fp8e4m3) (x8 : Vec F S1x1x128 .f32) (xt0 : TbBuf0 (F := F) c tbM0_0)

/-- The codes a head loads are its part of the block. -/
theorem codesAt_eq (h : ℕ) (hh : h < 128) : codesAt arg9 harg9 x7 h hh = codes x7 ⟨h, hh⟩ := by
  unfold codesAt
  funext x
  refine (harg9.readAt_unread x7 _ x).trans (congrArg x7 (funext fun a => Fin.ext ?_))
  have h0 := (x 0).isLt
  have h1 := (x 1).isLt
  match a with
  | ⟨0, _⟩ => show 0 + 1 * (x 0).val = 0; have : (x 0).val < 1 := h0; omega
  | ⟨1, _⟩ => show h + 1 * (x 1).val = h; have : (x 1).val < 1 := h1; omega
  | ⟨2, _⟩ => show 0 + 1 * (x 2).val = (x 2).val; omega
  | ⟨3, _⟩ => show 0 + 1 * (x 3).val = (x 3).val; omega

/-- The factors' scratch is written once, with all heads' factors. -/
theorem factors_eq : kernelRun0_A.sl.HS1_1 c arg3 harg3 arg4 harg4 arg5 harg5 arg10 harg10 x1 x2 x3 x8
    = [⟨Rect.unit ![0, 0] S128x128.size inb_S128x128_S128x128_0_0, factors x1 x2 x3 x8⟩] := by
  unfold kernelRun0_A.sl.HS1_1 factors
  rw [readAt_whole harg3 x1 off3, readAt_whole harg4 x2 off2, readAt_whole harg5 x3 off2, readAt_whole harg10 x8 off3]

/-- The factor a head reads back is its factor. -/
theorem factorAt_eq (h : ℕ) (hh : h < 128) :
    factorAt c arg3 harg3 arg4 harg4 arg5 harg5 arg10 harg10 arg15 x1 x2 x3 x8 h hh = factor x1 x2 x3 x8 ⟨h, hh⟩ := by
  unfold factorAt
  rw [factors_eq, View.readCov_eq_canon']
  funext x
  refine (congrFun (View.canon_unit_zero off2 _ _) _).trans (congrArg (factors x1 x2 x3 x8) (funext fun a => Fin.ext ?_))
  have h0 := (x 0).isLt
  have h1 := (x 1).isLt
  match a with
  | ⟨0, _⟩ => show h + 1 * (x 0).val = h; have : (x 0).val < 1 := h0; omega
  | ⟨1, _⟩ => show 0 + 1 * (x 1).val = 0; have : (x 1).val < 1 := h1; omega

/-- The factors read back together are all heads' factors. -/
theorem factorAll_eq : kernelRun0_A.sl.v217 c arg3 harg3 arg4 harg4 arg5 harg5 arg10 harg10 arg15 x1 x2 x3 x8
    = fun x => factors x1 x2 x3 x8 (ix2 (x 0) ⟨(x 1).val, lt_trans (x 1).isLt (by decide)⟩) := by
  unfold kernelRun0_A.sl.v217
  rw [factors_eq, View.readCov_eq_canon']
  funext x
  refine (congrFun (View.canon_unit_zero off2 _ _) _).trans (congrArg (factors x1 x2 x3 x8) (funext fun a => Fin.ext ?_))
  match a with
  | ⟨0, _⟩ => show 0 + 1 * (x 0).val = (x 0).val; omega
  | ⟨1, _⟩ => show 0 + 1 * (x 1).val = (x 1).val; omega

/-- The body reads the whole block of `x`. -/
theorem x_eq : kernelRun0_A.sl.r c arg2 harg2 x0 = k0_pay5 x0 := by
  unfold kernelRun0_A.sl.r
  rw [readAt_whole harg2 x0 off3]

/-- The body reads the whole blocks of `dt` and its bias. -/
theorem delta_eq : kernelRun0_A.sl.r_1 c arg3 harg3 arg4 harg4 x1 x2 = k0_pay6 x1 x2 := by
  unfold kernelRun0_A.sl.r_1
  rw [readAt_whole harg3 x1 off3, readAt_whole harg4 x2 off2]

/-- The column a head reads back is its column of `delta * x`. -/
theorem driveAt_eq (h : ℕ) (hh : h < 128) :
    driveAt c arg2 harg2 arg3 harg3 arg4 harg4 arg14 x0 x1 x2 h hh = drive x0 x1 x2 ⟨h, hh⟩ := by
  unfold driveAt kernelRun0_A.sl.HS0_1
  rw [x_eq, delta_eq, View.readCov_eq_canon']
  funext x
  refine (congrFun (View.canon_unit_zero off2 _ _) _).trans (congrArg (k0_pay8 (k0_pay5 x0) (k0_pay6 x1 x2)) (funext fun a => Fin.ext ?_))
  have h1 := (x 1).isLt
  match a with
  | ⟨0, _⟩ => show 0 + 1 * (x 0).val = (x 0).val; omega
  | ⟨1, _⟩ => show h + 1 * (x 1).val = h; have : (x 1).val < 1 := h1; omega

/-- The row of `B` a group loads is its row of the block. -/
theorem rowB_eq (g : ℕ) (hg : g < 8) : rowB arg6 harg6 x4 g hg = groupB x4 ⟨g, hg⟩ := by
  unfold rowB groupB
  refine congrArg k0_pay96 (funext fun x => ?_)
  refine (harg6.readAt_unread x4 _ x).trans (congrArg x4 (funext fun a => Fin.ext ?_))
  have h0 := (x 0).isLt
  have h1 := (x 1).isLt
  match a with
  | ⟨0, _⟩ => show 0 + 1 * (x 0).val = 0; have : (x 0).val < 1 := h0; omega
  | ⟨1, _⟩ => show g + 1 * (x 1).val = g; have : (x 1).val < 1 := h1; omega
  | ⟨2, _⟩ => show 0 + 1 * (x 2).val = (x 2).val; omega

end

/-- Head `h`'s codes out of the input blocks. -/
def headCodes (x0 : Vec F S1x128x64 .bf16) (x1 : Vec F S1x1x128 .bf16) (x2 x3 : Vec F S1x128 .f32) (x4 : Vec F S1x8x256 .bf16)
    (x7 : Vec F S1x128x64x256 .fp8e4m3) (x8 : Vec F S1x1x128 .f32) (h : Fin 128) : FVec F S1x1x64x256 .fp8e4m3 :=
  newCodes (groupB x4 (group h)) (codes x7 h) (factor x1 x2 x3 x8 h) (drive x0 x1 x2 h)
/-- Head `h`'s row of scales out of the input blocks. -/
def headScale (x0 : Vec F S1x128x64 .bf16) (x1 : Vec F S1x1x128 .bf16) (x2 x3 : Vec F S1x128 .f32) (x4 : Vec F S1x8x256 .bf16)
    (x7 : Vec F S1x128x64x256 .fp8e4m3) (x8 : Vec F S1x1x128 .f32) (h : Fin 128) : FVec F S1x128 .f32 :=
  scaleRow (groupB x4 (group h)) (codes x7 h) (factor x1 x2 x3 x8 h) (drive x0 x1 x2 h)

section
variable (c : Dev nD) (i : grid0.Coords) (arg2 : Memref sig .tc .vmem S1x128x64 .bf16) (harg2 : arg2.IsWhole) (arg3 : Memref sig .tc .vmem S1x1x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x8x256 .bf16) (harg6 : arg6.IsWhole) (arg7 : Memref sig .tc .vmem S1x8x256 .bf16) (harg7 : arg7.IsWhole) (arg8 : Memref sig .tc .vmem S1x128 .f32) (harg8 : arg8.IsWhole) (arg9 : Memref sig .tc .vmem S1x128x64x256 .fp8e4m3) (harg9 : arg9.IsWhole) (arg10 : Memref sig .tc .vmem S1x1x128 .f32) (harg10 : arg10.IsWhole) (arg11 : Memref sig .tc .vmem S1x128x64 .bf16) (harg11 : arg11.IsWhole) (arg12 : Memref sig .tc .vmem S1x128x64x256 .fp8e4m3) (harg12 : arg12.IsWhole) (arg13 : Memref sig .tc .vmem S1x1x128 .f32) (harg13 : arg13.IsWhole) (arg14 : Memref sig .tc .vmem S64x128 .f32) (harg14 : arg14.IsWhole) (arg15 : Memref sig .tc .vmem S128x128 .f32) (harg15 : arg15.IsWhole) (arg16 : Memref sig .tc .vmem S128x128 .f32) (harg16 : arg16.IsWhole)
  (x0 : Vec F S1x128x64 .bf16) (x1 : Vec F S1x1x128 .bf16) (x2 : Vec F S1x128 .f32) (x3 : Vec F S1x128 .f32) (x4 : Vec F S1x8x256 .bf16) (x5 : Vec F S1x8x256 .bf16) (x6 : Vec F S1x128 .f32) (x7 : Vec F S1x128x64x256 .fp8e4m3) (x8 : Vec F S1x1x128 .f32) (xt0 : TbBuf0 (F := F) c tbM0_0)

/-- The codes' block holds each head's codes. -/
theorem out_codes (y : S1x128x64x256.Idx) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xt0 y = headCodes x0 x1 x2 x3 x4 x7 x8 (y 1) (ix4 0 0 (y 2) (y 3)) := by
  unfold out0_A_10
  rw [View.read_writes_junk_eq_canon]
  refine View.canon_apply_of_pieces (fun y : S1x128x64x256.Idx => headCodes x0 x1 x2 x3 x4 x7 x8 (y 1) (ix4 0 0 (y 2) (y 3))) _ ?_ y
    (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xt0 y)
  intro p hp x
  obtain ⟨h, hh, rfl⟩ := codes_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xt0 p hp
  unfold codesPiece at x ⊢
  dsimp only at x ⊢
  rw [rowB_eq, codesAt_eq, factorAt_eq, driveAt_eq]
  have e1 : (Rect.unit ![0, h, 0, 0] ![1, 1, 64, 256] (inbQ h hh) : Rect S1x128x64x256).emb x 1 = (⟨h, hh⟩ : Fin 128) :=
    Fin.ext (by have : (x 1).val < 1 := (x 1).isLt; show h + 1 * (x 1).val = h; omega)
  rw [e1]
  refine congrArg (headCodes x0 x1 x2 x3 x4 x7 x8 ⟨h, hh⟩) (funext fun a => Fin.ext ?_)
  match a with
  | ⟨0, _⟩ => have : (x 0).val < 1 := (x 0).isLt; show (x 0).val = 0; omega
  | ⟨1, _⟩ => have : (x 1).val < 1 := (x 1).isLt; show (x 1).val = 0; omega
  | ⟨2, _⟩ => show (x 2).val = 0 + 1 * (x 2).val; omega
  | ⟨3, _⟩ => show (x 3).val = 0 + 1 * (x 3).val; omega

/-- The scale scratch holds each head's scale down its rows. -/
theorem scale_scratch (y : S128x128.Idx) :
    View.canon (kernelRun0_A.sl.HS2_128 c arg2 harg2 arg3 harg3 arg4 harg4 arg5 harg5 arg6 harg6 arg9 harg9 arg10 harg10 arg14 arg15 x0 x1 x2 x3 x4 x7 x8) y = headScale x0 x1 x2 x3 x4 x7 x8 (y 0) (ix2 0 (y 1)) := by
  refine View.canon_apply_of_pieces (fun y : S128x128.Idx => headScale x0 x1 x2 x3 x4 x7 x8 (y 0) (ix2 0 (y 1))) _ ?_ y
    (View.cover_of_tiledL (kernelRun0_A.sl.HS2_128 c arg2 harg2 arg3 harg3 arg4 harg4 arg5 harg5 arg6 harg6 arg9 harg9 arg10 harg10 arg14 arg15 x0 x1 x2 x3 x4 x7 x8) S1x128.size (by sl_kernel_rfl) y)
  intro p hp x
  obtain ⟨h, hh, rfl⟩ := scale_pieces c arg2 harg2 arg3 harg3 arg4 harg4 arg5 harg5 arg6 harg6 arg9 harg9 arg10 harg10 arg14 arg15 x0 x1 x2 x3 x4 x7 x8 p hp
  unfold scalePiece at x ⊢
  dsimp only at x ⊢
  rw [rowB_eq, codesAt_eq, factorAt_eq, driveAt_eq]
  have e1 : (Rect.unit ![h, 0] ![1, 128] (inbR h hh) : Rect S128x128).emb x 0 = (⟨h, hh⟩ : Fin 128) :=
    Fin.ext (by have : (x 0).val < 1 := (x 0).isLt; show h + 1 * (x 0).val = h; omega)
  rw [e1]
  refine congrArg (headScale x0 x1 x2 x3 x4 x7 x8 ⟨h, hh⟩) (funext fun a => Fin.ext ?_)
  match a with
  | ⟨0, _⟩ => have : (x 0).val < 1 := (x 0).isLt; show (x 0).val = 0; omega
  | ⟨1, _⟩ => show (x 1).val = 0 + 1 * (x 1).val; omega

/-- The scales' block is the first row of the turned scratch. -/
theorem out_scale :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xt0 = k0_pay2 fun y : S128x128.Idx => headScale x0 x1 x2 x3 x4 x7 x8 (y 0) (ix2 0 (y 1)) := by
  unfold out0_A_11
  rw [View.read_writes_junk_eq_canon]
  unfold kernelRun0_A
  dsimp only
  refine (View.canon_unit_zero off3 _ _).trans (congrArg k0_pay2 ?_)
  unfold kernelRun0_A.sl.v8449
  rw [View.readCov_eq_canon']
  funext y
  refine Eq.trans ?_ (scale_scratch c arg2 harg2 arg3 harg3 arg4 harg4 arg5 harg5 arg6 harg6 arg9 harg9 arg10 harg10 arg14 arg15 x0 x1 x2 x3 x4 x7 x8 y)
  refine congrArg (View.canon _) (funext fun a => Fin.ext ?_)
  match a with
  | ⟨0, _⟩ => show 0 + 1 * (y 0).val = (y 0).val; omega
  | ⟨1, _⟩ => show 0 + 1 * (y 1).val = (y 1).val; omega

/-- The rows of the product of the codes with `C`, stacked. -/
def stacked (x5 : Vec F S1x8x256 .bf16) (x7 : Vec F S1x128x64x256 .fp8e4m3) : FVec F S128x64 .f32 :=
  concatenate S128x64 0 (List.ofFn fun k : Fin 128 => ⟨S1x64, yRow (k0_pay10 x5 x7) k⟩) (concatRows _)

/-- One group's sum of `B * C`, over that group's block. -/
def groupSum (g : Fin 8) (p : FVec F S8x1 .f32) : FVec F S16x64 .f32 := fun _ => p (ix2 g 0)

/-- The result's block. -/
theorem out_y :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xt0 = k0_pay95 (k0_pay5 x0) (k0_pay7 (k0_pay5 x0) (k0_pay6 x1 x2)) (k0_pay9 x5 x4) (stacked x5 x7)
      (broadcastTo S16x64 (shapeCast S1x1 (extractStridedSlice S1x1 ![0, 0] (k0_pay9 x5 x4) slices_S8x1_o0_0_S1x1) shapeCasts_S1x1_S1x1) broadcasts_S1x1_S16x64)
      (broadcastTo S16x64 (shapeCast S1x1 (extractStridedSlice S1x1 ![1, 0] (k0_pay9 x5 x4) slices_S8x1_o1_0_S1x1) shapeCasts_S1x1_S1x1) broadcasts_S1x1_S16x64)
      (broadcastTo S16x64 (shapeCast S1x1 (extractStridedSlice S1x1 ![2, 0] (k0_pay9 x5 x4) slices_S8x1_o2_0_S1x1) shapeCasts_S1x1_S1x1) broadcasts_S1x1_S16x64)
      (extractStridedSlice S1x1 ![3, 0] (k0_pay9 x5 x4) slices_S8x1_o3_0_S1x1)
      (fun x => factors x1 x2 x3 x8 (ix2 (x 0) ⟨(x 1).val, lt_trans (x 1).isLt (by decide)⟩)) x6 := by
  have e3 : kernelRun0_A.sl.r_3 c arg6 harg6 arg7 harg7 x4 x5 = k0_pay9 x5 x4 := by
    unfold kernelRun0_A.sl.r_3
    rw [readAt_whole harg7 x5 off3, readAt_whole harg6 x4 off3]
  have e4 : kernelRun0_A.sl.r_4 c arg7 harg7 arg9 harg9 x5 x7 = k0_pay10 x5 x7 := by
    unfold kernelRun0_A.sl.r_4
    rw [readAt_whole harg7 x5 off3, readAt_whole harg9 x7 off4]
  unfold out0_A_9
  rw [View.read_writes_junk_eq_canon]
  unfold kernelRun0_A
  dsimp only
  refine (View.canon_unit_zero off3 _ _).trans ?_
  unfold kernelRun0_A.sl.v194 kernelRun0_A.sl.v193 kernelRun0_A.sl.v192 kernelRun0_A.sl.v197 kernelRun0_A.sl.v196 kernelRun0_A.sl.v195
    kernelRun0_A.sl.v200 kernelRun0_A.sl.v199 kernelRun0_A.sl.v198 kernelRun0_A.sl.v201 kernelRun0_A.sl.r_2
  rw [y_rows, factorAll_eq, x_eq, delta_eq, e3, e4, readAt_whole harg8 x6 off2]
  rfl

end

end Cert.KernelIdeal.Heads

end
-- ==== Proof.Exponent.lean ====
module

public import Idealize.ShloMosaic.PureOps.Ideal.Laws

@[expose] public section

noncomputable section

/-! The shared exponent of a quantised head, and the two ways the programs compute it: the kernel counts the powers of
    two that the scaled maximum reaches, the reference takes the floor of its binary logarithm. -/

namespace Cert.Expo

open Idealize.ShloMosaic

/-- The pattern with exponent field `n`, sign clear and significand zero is the power `2 ^ (n - 127)`. -/
theorem ieee_pow2 (b : BitVec 32) (n : ℕ) (h1 : 1 ≤ n) (h2 : n ≤ 254) (hb : b.toNat = n * 2 ^ 23) :
    Ideal.ofBits .f32 b = (((2 : ℝ) ^ ((n : ℤ) - 127) : ℝ) : EReal) := by
  have hx : (b.extractLsb' 23 8).toNat = n := by
    rw [BitVec.extractLsb'_toNat, hb, Nat.shiftRight_eq_div_pow, Nat.mul_div_cancel _ (by norm_num)]
    exact Nat.mod_eq_of_lt (by omega)
  have hf : (b.extractLsb' 0 23).toNat = 0 := by
    rw [BitVec.extractLsb'_toNat, hb, Nat.shiftRight_zero]
    exact Nat.mul_mod_left _ _
  have hs : (b.extractLsb' 31 1) = 0#1 := by
    apply BitVec.eq_of_toNat_eq
    rw [BitVec.extractLsb'_toNat, hb, Nat.shiftRight_eq_div_pow]
    have : n * 2 ^ 23 / 2 ^ 31 = 0 := Nat.div_eq_of_lt (by omega)
    rw [this]; rfl
  show Ideal.ieee 8 23 b = _
  unfold Ideal.ieee
  simp only [hx, hf, Nat.reduceAdd, hs]
  rw [if_neg (by omega), if_neg (by omega)]
  refine congrArg Real.toEReal ?_
  have h2 : (2 : ℝ) ≠ 0 := by norm_num
  rw [show ((2 ^ 23 + 0 : ℕ) : ℝ) = (2 : ℝ) ^ (23 : ℤ) by norm_num]
  rw [if_neg (by decide), one_mul, ← zpow_add₀ h2]
  congr 1
  push_cast
  ring

/-- A power of two as an extended real. -/
def pow2 (e : ℤ) : EReal := (((2 : ℝ) ^ e : ℝ) : EReal)

/-- How many of the powers `2 ^ (-126), …, 2 ^ 119` the value `t` reaches. -/
def reached (t : EReal) : ℕ := (Finset.univ.filter fun k : Fin 246 => pow2 ((k.val : ℤ) - 126) ≤ t).card

/-- No value reaches more powers than are counted. -/
theorem reached_le (t : EReal) : reached t ≤ 246 :=
  (Finset.card_filter_le _ _).trans (by simp)

/-- The count of a real value between two neighbouring powers of two is its exponent, held to the counted range. -/
theorem reached_real (r : ℝ) (L : ℤ) (h1 : (2 : ℝ) ^ L ≤ r) (h2 : r < (2 : ℝ) ^ (L + 1)) :
    ((reached (r : EReal) : ℕ) : ℤ) - 126 = min 120 (max (-126) (L + 1)) := by
  have hk : ∀ k : Fin 246, (pow2 ((k.val : ℤ) - 126) ≤ (r : EReal)) ↔ k.val < (L + 127).toNat := by
    intro k
    rw [pow2, EReal.coe_le_coe_iff]
    constructor
    · intro h
      have := (zpow_lt_zpow_iff_right₀ (one_lt_two : (1 : ℝ) < 2)).1 (h.trans_lt h2)
      omega
    · intro h
      refine le_trans ?_ h1
      exact zpow_le_zpow_right₀ one_lt_two.le (by omega)
  unfold reached
  simp only [hk]
  rw [Fin.card_filter_val_lt]
  omega

/-- Infinity reaches every counted power. -/
theorem reached_top : reached ⊤ = 246 := by
  unfold reached; simp

/-- The shared exponent of a head whose entries have the greatest magnitude `a`, for the scale constant `c`. -/
def expo (c a : EReal) : ℤ := if a = 0 then 0 else (reached (a * c) : ℤ) - 126

/-- The shared exponent lies between -126 and 120. -/
theorem expo_bounds (c a : EReal) : -126 ≤ expo c a ∧ expo c a ≤ 120 := by
  have := reached_le (a * c)
  unfold expo
  split <;> omega

/-- The kernel's exponent word. -/
def expoWord (c a : EReal) : BitVec 32 := if a = 0 then 0#32 else BitVec.ofNat 32 (reached (a * c)) - 126#32

/-- The kernel's power of two of its exponent word. -/
theorem pow2_word (c a : EReal) :
    Ideal.ofBits .f32 ((expoWord c a + 127#32) <<< 23) = pow2 (expo c a) := by
  have hr := reached_le (a * c)
  unfold expoWord expo
  split
  · rw [ieee_pow2 _ 127 (by omega) (by omega) (by decide)]; norm_num [pow2]
  · generalize reached (a * c) = n at hr
    rw [ieee_pow2 _ (n + 1) (by omega) (by omega) ?_]
    · unfold pow2; congr 2; push_cast; ring
    · simp only [BitVec.toNat_shiftLeft, BitVec.toNat_add, BitVec.toNat_sub, BitVec.toNat_ofNat, Nat.shiftLeft_eq]
      omega

/-- The kernel's power of two of the negated exponent word. -/
theorem pow2_neg_word (c a : EReal) :
    Ideal.ofBits .f32 ((0#32 - expoWord c a + 127#32) <<< 23) = pow2 (-expo c a) := by
  have hr := reached_le (a * c)
  unfold expoWord expo
  split
  · rw [ieee_pow2 _ 127 (by omega) (by omega) (by decide)]; norm_num [pow2]
  · generalize reached (a * c) = n at hr
    rw [ieee_pow2 _ (253 - n) (by omega) (by omega) ?_]
    · unfold pow2; congr 2; push_cast [show n ≤ 253 by omega]; ring
    · simp only [BitVec.toNat_shiftLeft, BitVec.toNat_add, BitVec.toNat_sub, BitVec.toNat_ofNat, Nat.shiftLeft_eq]
      omega

/-- The reference's exponent before the choice at zero: floor of the binary logarithm plus one, held to the range. -/
def floorLog (t : EReal) : EReal :=
  min ((120 : ℝ) : EReal) (max ((-126 : ℝ) : EReal)
    (Ideal.liftRound Int.floor (Ideal.div (Ideal.log t) (Ideal.log 2)) + ((1 : ℝ) : EReal)))

/-- The logarithm of two is the real one. -/
theorem log_two : Ideal.log 2 = ((Real.log 2 : ℝ) : EReal) := by
  rw [show (2 : EReal) = ((2 : ℝ) : EReal) by norm_cast, Ideal.log_coe, if_neg (by norm_num)]

/-- The reference's exponent of a positive value is the kernel's count of powers, also at infinity. -/
theorem floorLog_eq (t : EReal) (ht : 0 < t) : floorLog t = (((reached t : ℤ) - 126 : ℤ) : ℝ) := by
  have hl : Real.log 2 ≠ 0 := (Real.log_pos one_lt_two).ne'
  have hle : ((Real.log 2 : ℝ) : EReal) ≠ 0 := by exact_mod_cast hl
  unfold floorLog
  rw [log_two]
  induction t using EReal.rec with
  | bot => exact absurd ht (by simp)
  | top =>
    rw [Ideal.log_top, Ideal.div, if_neg hle, ← EReal.coe_inv,
      EReal.top_mul_coe_of_pos (inv_pos.2 (Real.log_pos one_lt_two)), Ideal.liftRound_top, reached_top]
    rw [EReal.top_add_coe, max_eq_right le_top, min_eq_left le_top]
    norm_num
  | coe r =>
    have hr : 0 < r := by exact_mod_cast ht
    rw [Ideal.log_coe, if_neg (by linarith), Ideal.div, if_neg hle, ← EReal.coe_inv, ← EReal.coe_mul, Ideal.liftRound_coe,
      ← div_eq_mul_inv]
    set L : ℤ := ⌊Real.log r / Real.log 2⌋ with hL
    have h0 : 0 < Real.log 2 := Real.log_pos one_lt_two
    have h1 : (2 : ℝ) ^ L ≤ r := by
      have := Int.floor_le (Real.log r / Real.log 2)
      rw [le_div_iff₀ h0, ← Real.log_zpow] at this
      exact (Real.log_le_log_iff (by positivity) hr).1 this
    have h2 : r < (2 : ℝ) ^ (L + 1) := by
      have := Int.lt_floor_add_one (Real.log r / Real.log 2)
      rw [div_lt_iff₀ h0, show ((⌊Real.log r / Real.log 2⌋ : ℤ) : ℝ) + 1 = ((L + 1 : ℤ) : ℝ) by push_cast; rfl,
        ← Real.log_zpow] at this
      exact (Real.log_lt_log_iff hr (by positivity)).1 this
    rw [reached_real r L h1 h2]
    rw [← EReal.coe_add, ← EReal.coe_strictMono.monotone.map_max, ← EReal.coe_strictMono.monotone.map_min]
    push_cast
    rfl

/-- The reference's exponent is the shared exponent. -/
theorem floorLog_expo (c a : EReal) (hc : 0 < c) (ha : 0 ≤ a) :
    (if a = 0 then 0 else floorLog (a * c)) = (((expo c a : ℤ) : ℝ) : EReal) := by
  unfold expo
  split
  · simp
  · rename_i h
    exact floorLog_eq _ (EReal.mul_pos (lt_of_le_of_ne ha (Ne.symm h)) hc)

/-- The reference's scale. -/
theorem exp2_int (e : ℤ) : Ideal.exp2 (((e : ℝ)) : EReal) = pow2 e := by
  rw [Ideal.exp2_coe, pow2]; congr 1; exact Real.rpow_intCast 2 e

/-- The reference's inverse scale. -/
theorem exp2_neg_int (e : ℤ) : Ideal.exp2 (0 - ((e : ℝ) : EReal)) = pow2 (-e) := by
  rw [← exp2_int]; congr 1; rw [zero_sub]; push_cast; rfl

end Cert.Expo

end
-- ==== Proof.Step.lean ====
module

public import proofs.«01_k».proof.Proof.Exponent
public import Mathlib.Algebra.BigOperators.Fin

@[expose] public section

noncomputable section

/-! The decode step in scalars: what both programs are shown to compute, and the one identity between them. -/

namespace Cert.Step

open Idealize.ShloMosaic Cert.Expo

/-- The magnitude of an extended real. -/
def mag (x : EReal) : EReal := @FloatOps.absf Ideal _ .f32 x

/-- `log (1 + exp z)` in its stable form. -/
def softplus (z : EReal) : EReal := max z 0 + Ideal.log1p (Ideal.exp (0 - mag z))

/-- The step size of a head, from its entry of `dt` and its bias. -/
def delta (t b : EReal) : EReal := softplus (t + b)

/-- The decay of a head's state, from its `A_log` and step size. -/
def decay (A t b : EReal) : EReal := Ideal.exp ((0 - Ideal.exp A) * delta t b)

/-- One entry of the new state: code `q` and scale `sc` of the old state, and the entries of `x` and `B`. -/
def state (A t b q sc x B : EReal) : EReal := decay A t b * (q * sc) + delta t b * x * B

/-- The greatest magnitude of a head's state. -/
def amax (f : Fin 64 → Fin 256 → EReal) : EReal :=
  Finset.univ.fold max (Ideal.ofBits .f32 0xFF800000#32) (fun p : Fin 64 × Fin 256 => mag (f p.1 p.2))

/-- The reciprocal of the greatest code, as the programs write it. -/
def recip : EReal := Ideal.ofBits .f32 0x3B124925#32

/-- A head's new scale, from its greatest magnitude. -/
def scale (a : EReal) : EReal := pow2 (expo recip a)

/-- A new code, from the head's greatest magnitude and an entry of its state. -/
def code (a w : EReal) : EReal :=
  min (Ideal.ofBits .f32 0x43E00000#32) (max (Ideal.ofBits .f32 0xC3E00000#32) (w * pow2 (-expo recip a)))

/-- One entry of the result, from the head's row of the new state. -/
def out (f C : Fin 256 → EReal) (D x : EReal) : EReal := ∑ n, f n * C n + D * x

/-- The magnitude of a real number is its absolute value. -/
theorem mag_coe (r : ℝ) : mag (r : EReal) = ((|r| : ℝ) : EReal) := by
  show max (r : EReal) (-(r : EReal)) = _
  rw [← EReal.coe_neg, ← EReal.coe_strictMono.monotone.map_max]; rfl

/-- A magnitude is not negative. -/
theorem mag_nonneg (x : EReal) : 0 ≤ mag x := by
  show 0 ≤ max x (-x)
  rcases le_total 0 x with h | h
  · exact le_max_of_le_left h
  · exact le_max_of_le_right (EReal.neg_nonneg.2 h)

/-- A greatest magnitude is not negative. -/
theorem amax_nonneg (f : Fin 64 → Fin 256 → EReal) : 0 ≤ amax f :=
  (mag_nonneg (f 0 0)).trans (by unfold amax; exact Finset.le_fold_max _ |>.2 (.inr ⟨(0, 0), Finset.mem_univ _, le_rfl⟩))

/-- Finite entries have a finite step size, and it is not negative. -/
theorem delta_real (t b : ℝ) : ∃ d : ℝ, 0 ≤ d ∧ delta t b = d := by
  have h1 : (1 : ℝ) ≤ 1 + Real.exp (0 - |t + b|) := by have := Real.exp_pos (0 - |t + b|); linarith
  refine ⟨max (t + b) 0 + Real.log (1 + Real.exp (0 - |t + b|)), add_nonneg (le_max_right _ _) (Real.log_nonneg h1), ?_⟩
  unfold delta softplus
  rw [← EReal.coe_add, mag_coe, ← EReal.coe_zero, ← EReal.coe_sub, Ideal.exp_coe]
  unfold Ideal.log1p
  rw [← EReal.coe_one, ← EReal.coe_add 1, Ideal.log_coe, if_neg (by linarith), EReal.coe_add _ (Real.log _),
    EReal.coe_strictMono.monotone.map_max]

/-- Whatever `A_log` is, the decay is a real number that is not negative. -/
theorem decay_real (A : EReal) (t b : ℝ) : ∃ d : ℝ, 0 ≤ d ∧ decay A t b = d := by
  obtain ⟨d, hd, e⟩ := delta_real t b
  unfold decay
  rw [e]
  induction A with
  | bot => exact ⟨1, zero_le_one, by rw [Ideal.exp_bot, sub_zero, zero_mul, ← EReal.coe_zero, Ideal.exp_coe, Real.exp_zero]⟩
  | coe r =>
    refine ⟨Real.exp ((0 - Real.exp r) * d), (Real.exp_pos _).le, ?_⟩
    rw [Ideal.exp_coe, ← EReal.coe_zero, ← EReal.coe_sub, ← EReal.coe_mul, Ideal.exp_coe]
  | top =>
    rw [Ideal.exp_top, sub_eq_add_neg, zero_add, EReal.neg_top]
    rcases hd.eq_or_lt with h | h
    · subst h; exact ⟨1, zero_le_one, by rw [EReal.coe_zero, mul_zero, ← EReal.coe_zero, Ideal.exp_coe, Real.exp_zero]⟩
    · exact ⟨0, le_rfl, by rw [EReal.bot_mul_coe_of_pos h, Ideal.exp_bot]; rfl⟩

/-- A finite addend passes through a finite factor. -/
theorem add_mul_real (a : EReal) (r c : ℝ) : (a + r) * (c : EReal) = a * c + r * c := by
  induction a with
  | bot =>
    rw [EReal.bot_add]
    rcases lt_trichotomy c 0 with h | h | h
    · rw [EReal.bot_mul_coe_of_neg h, ← EReal.coe_mul, EReal.top_add_coe]
    · subst h; simp
    · rw [EReal.bot_mul_coe_of_pos h, EReal.bot_add]
  | coe x => rw [← EReal.coe_add, ← EReal.coe_mul, ← EReal.coe_mul, ← EReal.coe_mul, ← EReal.coe_add, add_mul]
  | top =>
    rw [EReal.top_add_coe]
    rcases lt_trichotomy c 0 with h | h | h
    · rw [EReal.top_mul_coe_of_neg h, EReal.bot_add]
    · subst h; simp
    · rw [EReal.top_mul_coe_of_pos h, ← EReal.coe_mul, EReal.top_add_coe]

/-- A factor that is a real number and not negative passes through a sum. -/
theorem mul_sum_real {ι : Type} (S : Finset ι) (s : ℝ) (hs : 0 ≤ s) (f : ι → EReal) :
    (s : EReal) * ∑ n ∈ S, f n = ∑ n ∈ S, (s : EReal) * f n := by
  classical
  induction S using Finset.induction_on with
  | empty => simp
  | insert a S ha ih =>
    rw [Finset.sum_insert ha, Finset.sum_insert ha,
      EReal.left_distrib_of_nonneg_of_ne_top (EReal.coe_nonneg.2 hs) (EReal.coe_ne_top s), ih]

/-- A finite sum of real numbers is the sum as a real number, so any finite factor passes through it. -/
theorem real_mul_sum {ι : Type} (S : Finset ι) (s : ℝ) (f : ι → ℝ) :
    (s : EReal) * ∑ n ∈ S, (f n : EReal) = ∑ n ∈ S, (s : EReal) * (f n : EReal) := by
  classical
  have h : ∀ g : ι → ℝ, (∑ n ∈ S, (g n : EReal)) = ((∑ n ∈ S, g n : ℝ) : EReal) := by
    intro g
    induction S using Finset.induction_on with
    | empty => simp
    | insert a S ha ih => rw [Finset.sum_insert ha, Finset.sum_insert ha, EReal.coe_add, ih]
  rw [h, ← EReal.coe_mul, Finset.mul_sum, ← h]
  simp only [EReal.coe_mul]

/-- The identity that the kernel rests on: the sum over the state of the new state times `C` is the decay times the scale
    times the sum over the old codes, plus `delta * x` times the sum of `B * C`. -/
theorem out_split (A : EReal) (t b sc x : ℝ) (hsc : 0 ≤ sc) (q : Fin 256 → EReal) (B C : Fin 256 → ℝ) :
    ∑ n, state A t b (q n) sc x (B n) * C n
      = decay A t b * sc * ∑ n, (C n : EReal) * q n + delta t b * x * ∑ n, (B n : EReal) * C n := by
  obtain ⟨d, _, ed⟩ := delta_real t b
  obtain ⟨k, hk, ek⟩ := decay_real A t b
  unfold state
  rw [ed, ek, ← EReal.coe_mul, ← EReal.coe_mul, mul_sum_real _ _ (mul_nonneg hk hsc)]
  simp only [← EReal.coe_mul]
  rw [real_mul_sum, ← Finset.sum_add_distrib]
  refine Finset.sum_congr rfl fun n _ => ?_
  rw [add_mul_real]
  simp only [EReal.coe_mul]
  ac_rfl

/-! The kernel's way to the exponent. -/

/-- The words of one bit added up count where they are set. -/
theorem fold_count {ι : Type} (S : Finset ι) (P : ι → Prop) [DecidablePred P] :
    S.fold IntOp.addi (0#32) (fun x => BitVec.setWidth 32 (BitVec.ofBool (decide (P x)))) = BitVec.ofNat 32 (S.filter P).card := by
  classical
  induction S using Finset.induction_on with
  | empty => rfl
  | insert a S ha ih =>
    rw [Finset.fold_insert ha, ih, Finset.filter_insert]
    by_cases h : P a
    · rw [if_pos h, Finset.card_insert_of_notMem (fun hm => ha (Finset.mem_of_mem_filter a hm))]
      simp only [h, decide_true]
      show BitVec.setWidth 32 (1#1) + BitVec.ofNat 32 _ = _
      apply BitVec.eq_of_toNat_eq
      simp [BitVec.toNat_add, BitVec.toNat_ofNat]
      omega
    · rw [if_neg h]
      simp only [h, decide_false]
      show BitVec.setWidth 32 (0#1) + BitVec.ofNat 32 _ = _
      apply BitVec.eq_of_toNat_eq
      simp [BitVec.toNat_add, BitVec.toNat_ofNat]

/-- The rung `n` of the kernel's ladder is a power of two. -/
theorem rung (n : Fin 246) :
    Ideal.ofBits .f32 (IntOp.shli ArithUnit.vector (IntOp.addi (BitVec.ofNat 32 n.val) 1#32) 23#32) = pow2 ((n.val : ℤ) - 126) := by
  have hn := n.isLt
  show Ideal.ofBits .f32 ((BitVec.ofNat 32 n.val + 1#32) <<< 23) = _
  rw [ieee_pow2 _ (n.val + 1) (by omega) (by omega) ?_]
  · unfold pow2; congr 2; push_cast; ring
  · simp only [BitVec.toNat_shiftLeft, BitVec.toNat_add, BitVec.toNat_ofNat, Nat.shiftLeft_eq]
    omega

/-- The kernel's exponent word, from its ladder of comparisons. -/
theorem ladder (a : EReal) :
    (if a = 0 then 0#32 else IntOp.subi (Finset.univ.fold IntOp.addi (0#32) (fun n : Fin 246 => BitVec.setWidth 32 (BitVec.ofBool (decide
      (Ideal.ofBits .f32 (IntOp.shli ArithUnit.vector (IntOp.addi (BitVec.ofNat 32 n.val) 1#32) 23#32) ≤ a * recip))))) 126#32)
      = expoWord recip a := by
  simp only [rung]
  rw [fold_count]
  rfl

/-- The scale that the kernel builds from its exponent word. -/
theorem scale_word (a : EReal) :
    Ideal.ofBits .f32 (IntOp.shli ArithUnit.vector (IntOp.addi (expoWord recip a) 127#32) 23#32) = scale a := pow2_word recip a

/-- The inverse scale that the kernel builds from its exponent word. -/
theorem inverse_word (a : EReal) :
    Ideal.ofBits .f32 (IntOp.shli ArithUnit.vector (IntOp.addi (IntOp.subi (0#32) (expoWord recip a)) 127#32) 23#32) = pow2 (-expo recip a) :=
  pow2_neg_word recip a

end Cert.Step

end
-- ==== Proof.HeadsIdeal.lean ====
module

public import proofs.«01_k».proof.Proof.HeadsOut
public import proofs.«01_k».proof.Proof.Step

@[expose] public section

set_option maxRecDepth 16384

noncomputable section

/-! The body's three output blocks over the extended reals, in the scalars of the decode step. -/

namespace Cert.KernelIdeal.Heads

open Idealize.ShloMosaic Idealize.ShloMosaic.TcCoe Idealize.SL.Sem Cert.KernelIdeal Cert.KernelIdeal.Gen

/-- The step size of a head. -/
theorem softplus_at (v0 : Vec Ideal S1x1x128 .bf16) (v3 : Vec Ideal S1x128 .f32) (h : Fin 128) :
    k0_pay3 v0 v3 (ix2 0 h) = Step.delta (v0 (ix3 0 0 h)) (v3 (ix2 0 h)) := by
  unfold k0_pay3
  pointwise
  rw [if_neg (not_not.2 rfl)]
  rfl

/-- A head's factor is its decay times its old scale. -/
theorem factors_at (x1 : Vec Ideal S1x1x128 .bf16) (x2 x3 : Vec Ideal S1x128 .f32) (x8 : Vec Ideal S1x1x128 .f32) (h k : Fin 128) :
    factors x1 x2 x3 x8 (ix2 h k) = Step.decay (x3 (ix2 0 h)) (x1 (ix3 0 0 h)) (x2 (ix2 0 h)) * x8 (ix3 0 0 h) := by
  unfold factors k0_pay4
  pointwise
  rw [softplus_at]
  rfl

/-- An entry of a head's column of `delta * x`. -/
theorem drive_at (x0 : Vec Ideal S1x128x64 .bf16) (x1 : Vec Ideal S1x1x128 .bf16) (x2 : Vec Ideal S1x128 .f32) (h : Fin 128) (i : Fin 64) :
    drive x0 x1 x2 h (ix2 i 0) = Step.delta (x1 (ix3 0 0 h)) (x2 (ix2 0 h)) * x0 (ix3 0 h i) := by
  show k0_pay8 (k0_pay5 x0) (k0_pay6 x1 x2) (ix2 i h) = _
  unfold k0_pay8 k0_pay7 k0_pay5 k0_pay6
  pointwise
  rw [softplus_at]

/-- An entry of a group's row of `B`. -/
theorem groupB_at (x4 : Vec Ideal S1x8x256 .bf16) (g : Fin 8) (n : Fin 256) : groupB x4 g (ix2 0 n) = x4 (ix3 0 g n) := by
  unfold groupB k0_pay96
  pointwise

/-- An entry of head `h`'s new state, from the input blocks. -/
def blockState (x0 : Vec Ideal S1x128x64 .bf16) (x1 : Vec Ideal S1x1x128 .bf16) (x2 x3 : Vec Ideal S1x128 .f32) (x4 : Vec Ideal S1x8x256 .bf16)
    (x7 : Vec Ideal S1x128x64x256 .fp8e4m3) (x8 : Vec Ideal S1x1x128 .f32) (h : Fin 128) (i : Fin 64) (n : Fin 256) : EReal :=
  Step.state (x3 (ix2 0 h)) (x1 (ix3 0 0 h)) (x2 (ix2 0 h)) (x7 (ix4 0 h i n)) (x8 (ix3 0 0 h)) (x0 (ix3 0 h i)) (x4 (ix3 0 (group h) n))

section
variable (x0 : Vec Ideal S1x128x64 .bf16) (x1 : Vec Ideal S1x1x128 .bf16) (x2 x3 : Vec Ideal S1x128 .f32) (x4 : Vec Ideal S1x8x256 .bf16)
    (x7 : Vec Ideal S1x128x64x256 .fp8e4m3) (x8 : Vec Ideal S1x1x128 .f32) (h : Fin 128)

/-- An entry of a head's new state, as the body computes it. -/
theorem newState_at (i : Fin 64) (n : Fin 256) :
    k0_pay103 (groupB x4 (group h)) (codes x7 h) (factor x1 x2 x3 x8 h) (drive x0 x1 x2 h) (ix2 i n)
      = blockState x0 x1 x2 x3 x4 x7 x8 h i n := by
  unfold k0_pay103
  pointwise
  rw [drive_at, groupB_at]
  show codes x7 h (ix4 0 0 i n) * factors x1 x2 x3 x8 (ix2 h 0) + _ = _
  rw [factors_at]
  unfold blockState Step.state
  rw [mul_left_comm]
  rfl

/-- The greatest magnitude of head `h`'s new state. -/
def blockMax : EReal := Step.amax (blockState x0 x1 x2 x3 x4 x7 x8 h)

/-- The greatest magnitude of a head's new state, as the body computes it. -/
theorem max_at (j : S1x1.Idx) :
    k0_pay104 (groupB x4 (group h)) (codes x7 h) (factor x1 x2 x3 x8 h) (drive x0 x1 x2 h) j = blockMax x0 x1 x2 x3 x4 x7 x8 h := by
  unfold k0_pay104
  pointwise
  unfold blockMax Step.amax
  refine Finset.fold_congr fun p _ => ?_
  rw [newState_at]
  rfl

/-- The word of a head's shared exponent, as the body computes it. -/
theorem exponent_at (j : S1x1.Idx) :
    k0_pay106 (k0_pay104 (groupB x4 (group h)) (codes x7 h) (factor x1 x2 x3 x8 h) (drive x0 x1 x2 h))
      (k0_pay105 (groupB x4 (group h)) (codes x7 h) (factor x1 x2 x3 x8 h) (drive x0 x1 x2 h)) j
      = Expo.expoWord Step.recip (blockMax x0 x1 x2 x3 x4 x7 x8 h) := by
  rw [← Step.ladder]
  unfold k0_pay106 k0_pay105
  pointwise
  simp only [max_at]
  rfl

/-- The new scale of a head, in every column of its row. -/
theorem scale_at (k : Fin 128) :
    headScale x0 x1 x2 x3 x4 x7 x8 h (ix2 0 k) = Step.scale (blockMax x0 x1 x2 x3 x4 x7 x8 h) := by
  unfold headScale scaleRow k0_pay107
  pointwise
  rw [exponent_at]
  exact Step.scale_word _

/-- A new code of a head. -/
theorem code_at (i : Fin 64) (n : Fin 256) :
    headCodes x0 x1 x2 x3 x4 x7 x8 h (ix4 0 0 i n)
      = Step.code (blockMax x0 x1 x2 x3 x4 x7 x8 h) (blockState x0 x1 x2 x3 x4 x7 x8 h i n) := by
  unfold headCodes newCodes k0_pay108
  pointwise
  rw [exponent_at, Step.inverse_word, newState_at]
  rfl

end

/-- A group's single entry lies within the column of sums. -/
theorem sliceS (g : Fin 8) : S8x1.Slices ![g.val, 0] S1x1 :=
  ⟨rfl, fun a => match a with
    | 0 => by have := g.isLt; show g.val + 1 ≤ 8; omega
    | 1 => Nat.le_refl _⟩

/-- The groups' sums of `B * C` spread over their heads, read at an entry. -/
theorem groups_at (p : FVec Ideal S8x1 .f32)
    (hc : Shape.Concatenates ((List.ofFn fun g : Fin 8 => (⟨S16x64, broadcastTo S16x64 (shapeCast S1x1 (extractStridedSlice S1x1 ![g.val, 0] p (sliceS g)) shapeCasts_S1x1_S1x1) broadcasts_S1x1_S16x64⟩ : (s : Shape) × (s.Idx → EReal))).map (·.1)) S128x64 0) :
    concatenate S128x64 0 (List.ofFn fun g : Fin 8 => (⟨S16x64, broadcastTo S16x64 (shapeCast S1x1 (extractStridedSlice S1x1 ![g.val, 0] p (sliceS g)) shapeCasts_S1x1_S1x1) broadcasts_S1x1_S16x64⟩ : (s : Shape) × (s.Idx → EReal))) hc
      = fun y => p (ix2 (group (y 0)) 0) := by
  funext y
  have hy : (y 0).val < 128 := (y 0).isLt
  rw [concatenate_ofFn_apply 0 _ hc rfl 16 rfl y (group (y 0)) rfl
    (ix2 ⟨(y 0).val % 16, Nat.mod_lt _ (by decide)⟩ (y 1)) rfl
    (fun b hb => by
      match b with
      | ⟨0, _⟩ => exact absurd rfl hb
      | ⟨1, _⟩ => rfl)]
  pointwise

/-- The stacked rows of the product of the codes with `C`, read at an entry. -/
theorem stacked_at (x5 : Vec Ideal S1x8x256 .bf16) (x7 : Vec Ideal S1x128x64x256 .fp8e4m3) (h : Fin 128) (i : Fin 64) :
    stacked x5 x7 (ix2 h i) = ∑ n : Fin 256, x5 (ix3 0 (group h) n) * x7 (ix4 0 h i n) := by
  have hh := h.isLt
  have hi := i.isLt
  unfold stacked
  rw [concatenate_ofFn_apply (s₁ := S1x64) 0 (fun k => yRow (k0_pay10 x5 x7) k) (concatRows _) rfl 1 rfl (ix2 h i) h (Nat.div_one _) (ix2 (0 : Fin 1) i) (by show (0 : ℕ) = h.val % 1; omega)
    (fun b hb => by
      match b with
      | ⟨0, _⟩ => exact absurd rfl hb
      | ⟨1, _⟩ => rfl)]
  have e : yRow (k0_pay10 x5 x7) h (ix2 0 i) = k0_pay10 x5 x7 (ix2 (group h) ⟨64 * h.val + i.val, by omega⟩) := by
    unfold yRow
    refine extractStridedSlice_apply _ _ _ _ _ fun a => ?_
    match a with
    | ⟨0, _⟩ => rfl
    | ⟨1, _⟩ => rfl
  rw [e]
  unfold k0_pay10
  pointwise

/-- A group's sum of `B * C`. -/
theorem sumBC_at (C B : Vec Ideal S1x8x256 .bf16) (g : Fin 8) :
    k0_pay9 C B (ix2 g 0) = ∑ n : Fin 256, B (ix3 0 g n) * C (ix3 0 g n) := by
  unfold k0_pay9
  pointwise

section
variable (c : Dev nD) (i : grid0.Coords) (arg2 : Memref sig .tc .vmem S1x128x64 .bf16) (harg2 : arg2.IsWhole) (arg3 : Memref sig .tc .vmem S1x1x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x8x256 .bf16) (harg6 : arg6.IsWhole) (arg7 : Memref sig .tc .vmem S1x8x256 .bf16) (harg7 : arg7.IsWhole) (arg8 : Memref sig .tc .vmem S1x128 .f32) (harg8 : arg8.IsWhole) (arg9 : Memref sig .tc .vmem S1x128x64x256 .fp8e4m3) (harg9 : arg9.IsWhole) (arg10 : Memref sig .tc .vmem S1x1x128 .f32) (harg10 : arg10.IsWhole) (arg11 : Memref sig .tc .vmem S1x128x64 .bf16) (harg11 : arg11.IsWhole) (arg12 : Memref sig .tc .vmem S1x128x64x256 .fp8e4m3) (harg12 : arg12.IsWhole) (arg13 : Memref sig .tc .vmem S1x1x128 .f32) (harg13 : arg13.IsWhole) (arg14 : Memref sig .tc .vmem S64x128 .f32) (harg14 : arg14.IsWhole) (arg15 : Memref sig .tc .vmem S128x128 .f32) (harg15 : arg15.IsWhole) (arg16 : Memref sig .tc .vmem S128x128 .f32) (harg16 : arg16.IsWhole)
  (x0 : Vec Ideal S1x128x64 .bf16) (x1 : Vec Ideal S1x1x128 .bf16) (x2 : Vec Ideal S1x128 .f32) (x3 : Vec Ideal S1x128 .f32) (x4 : Vec Ideal S1x8x256 .bf16) (x5 : Vec Ideal S1x8x256 .bf16) (x6 : Vec Ideal S1x128 .f32) (x7 : Vec Ideal S1x128x64x256 .fp8e4m3) (x8 : Vec Ideal S1x1x128 .f32) (xt0 : TbBuf0 (F := Ideal) c tbM0_0)

/-- An entry of the codes' block. -/
theorem block_codes (h : Fin 128) (k : Fin 64) (n : Fin 256) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xt0 (ix4 0 h k n) = Step.code (blockMax x0 x1 x2 x3 x4 x7 x8 h) (blockState x0 x1 x2 x3 x4 x7 x8 h k n) := by
  rw [out_codes]
  exact code_at x0 x1 x2 x3 x4 x7 x8 h k n

/-- An entry of the scales' block. -/
theorem block_scale (h : Fin 128) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xt0 (ix3 0 0 h) = Step.scale (blockMax x0 x1 x2 x3 x4 x7 x8 h) := by
  rw [out_scale]
  unfold k0_pay2
  pointwise
  exact scale_at x0 x1 x2 x3 x4 x7 x8 h _

/-- An entry of the result's block, when the step's inputs are finite and the old scale is not negative. -/
theorem block_y (h : Fin 128) (k : Fin 64) (rx : ∃ r : ℝ, (x0 (ix3 0 h k) : EReal) = r) (rt : ∃ r : ℝ, (x1 (ix3 0 0 h) : EReal) = r)
    (rb : ∃ r : ℝ, (x2 (ix2 0 h) : EReal) = r) (rB : ∀ n, ∃ r : ℝ, (x4 (ix3 0 (group h) n) : EReal) = r)
    (rC : ∀ n, ∃ r : ℝ, (x5 (ix3 0 (group h) n) : EReal) = r) (rs : ∃ r : ℝ, 0 ≤ r ∧ (x8 (ix3 0 0 h) : EReal) = r) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xt0 (ix3 0 h k)
      = Step.out (blockState x0 x1 x2 x3 x4 x7 x8 h k) (fun n => x5 (ix3 0 (group h) n)) (x6 (ix2 0 h)) (x0 (ix3 0 h k)) := by
  obtain ⟨x, ex⟩ := rx
  obtain ⟨t, et⟩ := rt
  obtain ⟨b, eb⟩ := rb
  choose B eB using rB
  choose C eC using rC
  obtain ⟨s, hs, es⟩ := rs
  rw [out_y]
  have e : (concatenate S128x64 0 (List.ofFn fun g : Fin 8 => (⟨S16x64, broadcastTo S16x64 (shapeCast S1x1 (extractStridedSlice S1x1 ![g.val, 0] (k0_pay9 x5 x4) (sliceS g)) shapeCasts_S1x1_S1x1) broadcasts_S1x1_S16x64⟩ : (s : Shape) × (s.Idx → EReal)))
      concatenates_S16x64_S16x64_S16x64_S16x64_S16x64_S16x64_S16x64_S16x64_S128x64_d0) = fun y => k0_pay9 x5 x4 (ix2 (group (y 0)) 0) := groups_at _ _
  unfold k0_pay95
  dsimp only
  erw [e]
  unfold k0_pay7 k0_pay5 k0_pay6
  pointwise
  rw [stacked_at, sumBC_at, softplus_at, factors_at]
  unfold Step.out blockState
  simp only [ex, et, eb, eB, eC, es]
  rw [Step.out_split _ _ _ _ _ hs]

end

end Cert.KernelIdeal.Heads

end
-- ==== Proof.Decode.lean ====
module

public import proofs.«01_k».proof.Proof.Step
public import Idealize.ShloMosaic.Lib.Pointwise

@[expose] public section

noncomputable section

/-! The decode step of every request and head, in the argument arrays: what both programs leave. -/

namespace Cert.Step

open Idealize.ShloMosaic

/-- The group of a head. -/
def group (h : Fin 128) : Fin 8 := ⟨h.val / 16, by omega⟩

section
variable (a0 : (⟨3, ![12, 128, 64]⟩ : Shape).Idx → EReal) (a1 : (⟨2, ![12, 128]⟩ : Shape).Idx → EReal)
  (a2 a3 : (⟨1, ![128]⟩ : Shape).Idx → EReal) (a4 a5 : (⟨3, ![12, 8, 256]⟩ : Shape).Idx → EReal)
  (a6 : (⟨1, ![128]⟩ : Shape).Idx → EReal) (a7 : (⟨4, ![18, 128, 64, 256]⟩ : Shape).Idx → EReal)
  (a8 : (⟨2, ![18, 128]⟩ : Shape).Idx → EReal) (a9 : (⟨1, ![12]⟩ : Shape).Idx → BitVec 32)
  (ids : ∀ b, (a9 b).toNat < 18) (b : Fin 12) (h : Fin 128) (i : Fin 64) (n : Fin 256)

/-- A request's slot in the pool. -/
def slot : Fin 18 := ⟨(a9 (ix1 b)).toNat, ids (ix1 b)⟩

/-- An entry of a request's new state. -/
def newState : EReal :=
  state (a3 (ix1 h)) (a1 (ix2 b h)) (a2 (ix1 h)) (a7 (ix4 (slot a9 ids b) h i n)) (a8 (ix2 (slot a9 ids b) h)) (a0 (ix3 b h i))
    (a4 (ix3 b (group h) n))

/-- The greatest magnitude of a head's new state. -/
def newMax : EReal := amax (newState a0 a1 a2 a3 a4 a7 a8 a9 ids b h)

/-- A head's new scale. -/
def newScale : EReal := scale (newMax a0 a1 a2 a3 a4 a7 a8 a9 ids b h)

/-- A new code. -/
def newCode : EReal := code (newMax a0 a1 a2 a3 a4 a7 a8 a9 ids b h) (newState a0 a1 a2 a3 a4 a7 a8 a9 ids b h i n)

/-- An entry of the result. -/
def newOut : EReal :=
  out (newState a0 a1 a2 a3 a4 a7 a8 a9 ids b h i) (fun n => a5 (ix3 b (group h) n)) (a6 (ix1 h)) (a0 (ix3 b h i))

end

end Cert.Step

end
-- ==== Proof.KernelEntry.lean ====
module

public import proofs.«01_k».proof.Proof.Gen.KernelIdeal.Frame
public import proofs.«01_k».proof.Proof.Decode
public import Idealize.ShloMosaic.Lib.Pointwise
public import Idealize.ShloMosaic.Lib.Claim

@[expose] public section

set_option maxRecDepth 16384

noncomputable section

/-! What the kernel's region finds in its arrays: the arguments, some of them spread over an axis of length one. -/

namespace Cert.KernelIdeal.Entry

open Idealize.ShloMosaic Idealize.ShloMosaic.TcCoe Idealize.SL.Sem Cert.KernelIdeal Cert.KernelIdeal.Gen

variable {F : FTy → Type} [FloatOps F] (m : (ℓ : Loc nD τ sig) → Buf (Elt F) ℓ) (c : Dev nD)

/-- `dt` as the region receives it. -/
theorem V_dt (b : Fin 12) (h : Fin 128) : V m c main_v0 (ix3 b 0 h) = m ((c : Thread nD τ).loc main_arg1) (ix2 b h) := by
  have e : V m c main_v0 = broadcastInDim S12x1x128 ![0, 2] bcast_S12x128_S12x1x128_0_2 (m ((c : Thread nD τ).loc main_arg1)) := by
    show StableHlo.after hostOps0 _ (Proc.devRef .tc main_v0) = _
    after_results
  rw [e]
  pointwise

/-- The bias of `dt` as the region receives it. -/
theorem V_bias (h : Fin 128) : V m c main_v1 (ix2 0 h) = m ((c : Thread nD τ).loc main_arg2) (ix1 h) := by
  have e : V m c main_v1 = broadcastInDim S1x128 ![1] bcast_S128_S1x128_1 (m ((c : Thread nD τ).loc main_arg2)) := by
    show StableHlo.after hostOps0 _ (Proc.devRef .tc main_v1) = _
    after_results
  rw [e]
  pointwise

/-- `A_log` as the region receives it. -/
theorem V_alog (h : Fin 128) : V m c main_v2 (ix2 0 h) = m ((c : Thread nD τ).loc main_arg3) (ix1 h) := by
  have e : V m c main_v2 = broadcastInDim S1x128 ![1] bcast_S128_S1x128_1 (m ((c : Thread nD τ).loc main_arg3)) := by
    show StableHlo.after hostOps0 _ (Proc.devRef .tc main_v2) = _
    after_results
  rw [e]
  pointwise

/-- `D` as the region receives it. -/
theorem V_skip (h : Fin 128) : V m c main_v3 (ix2 0 h) = m ((c : Thread nD τ).loc main_arg6) (ix1 h) := by
  have e : V m c main_v3 = broadcastInDim S1x128 ![1] bcast_S128_S1x128_1 (m ((c : Thread nD τ).loc main_arg6)) := by
    show StableHlo.after hostOps0 _ (Proc.devRef .tc main_v3) = _
    after_results
  rw [e]
  pointwise

/-- The pool of scales as the region receives it. -/
theorem V_scale (s : Fin 18) (h : Fin 128) : V m c main_v4 (ix3 s 0 h) = m ((c : Thread nD τ).loc main_arg8) (ix2 s h) := by
  have e : V m c main_v4 = broadcastInDim S18x1x128 ![0, 2] bcast_S18x128_S18x1x128_0_2 (m ((c : Thread nD τ).loc main_arg8)) := by
    show StableHlo.after hostOps0 _ (Proc.devRef .tc main_v4) = _
    after_results
  rw [e]
  pointwise

/-- The table of slots is the argument. -/
theorem tbl_eq : tbl m 0 = m ((c : Thread nD τ).loc main_arg9) := by
  rw [Subsingleton.elim c 0]
  exact V_main_arg9 m 0

/-! Where the windows' blocks lie. -/

/-- The block index of window 0 at a point. -/
theorem row0 (t : Fin grid0.N) : cc0_transform_0 (grid0.coords t) = ![t.val, 0, 0] := by revert t; decide
/-- The block index of window 1 at a point. -/
theorem row1 (t : Fin grid0.N) : cc0_transform_1 (grid0.coords t) = ![t.val, 0, 0] := by revert t; decide
/-- The block index of window 2 at a point. -/
theorem row2 (t : Fin grid0.N) : cc0_transform_2 (grid0.coords t) = ![0, 0] := by revert t; decide
/-- The block index of window 3 at a point. -/
theorem row3 (t : Fin grid0.N) : cc0_transform_3 (grid0.coords t) = ![0, 0] := by revert t; decide
/-- The block index of window 6 at a point. -/
theorem row6 (t : Fin grid0.N) : cc0_transform_6 (grid0.coords t) = ![0, 0] := by revert t; decide
/-- The block index of window 4 at a point. -/
theorem row4 (t : Fin grid0.N) : cc0_transform_4 (grid0.coords t) = ![t.val, 0, 0] := by revert t; decide
/-- The block index of window 5 at a point. -/
theorem row5 (t : Fin grid0.N) : cc0_transform_5 (grid0.coords t) = ![t.val, 0, 0] := by revert t; decide
/-- The block index of window 9 at a point. -/
theorem row9 (t : Fin grid0.N) : cc0_transform_9 (grid0.coords t) = ![t.val, 0, 0] := by revert t; decide
/-- The block index of window 10 at a point. -/
theorem row10 (t : Fin grid0.N) : cc0_transform_10 (grid0.coords t) = ![t.val, 0, 0, 0] := by revert t; decide
/-- The block index of window 11 at a point. -/
theorem row11 (t : Fin grid0.N) : cc0_transform_11 (grid0.coords t) = ![t.val, 0, 0] := by revert t; decide

/-- The point of a request. -/
def pt (b : Fin 12) : Fin grid0.N := ⟨b.val, b.isLt⟩

/-- A request's point reads the table at the request. -/
theorem off_at (b : Fin 12) : k0_off1 (grid0.coords (pt b)) = ![b.val] := by revert b; decide

/-- The table's word at a request's point is the request's slot. -/
theorem word_at (pf : pre0.Contents (Elt F)) (b : Fin 12) (hi) :
    pf.at 0 (Rect.unit (s := S12) (k0_off1 (grid0.coords (pt b))) S1.size hi) numel1_S1 = pf 0 (ix1 b) := by
  have k : ∀ a : Fin 1, ((Rect.unit (s := S12) (k0_off1 (grid0.coords (pt b))) S1.size hi).emb (Shape.Idx.first (numel1_S1.symm ▸ Nat.one_pos)) a : Nat) = (ix1 b a : Nat) := by
    intro a
    obtain rfl : a = 0 := Subsingleton.elim _ _
    exact congrFun (off_at b) 0
  exact congrArg (pf 0) (funext fun a => Fin.ext (k a))

/-- A request's codes begin at its slot. -/
theorem row7 (pf : pre0.Contents (Elt F)) (b : Fin 12) :
    cc0_transform_7 k0_off1_inb numel1_S1 pf (grid0.coords (pt b)) = ![(pf 0 (ix1 b) : BitVec 32).toNat, 0, 0, 0] := by
  rw [← word_at pf b (k0_off1_inb _)]
  rfl

/-- A request's scales begin at its slot. -/
theorem row8 (pf : pre0.Contents (Elt F)) (b : Fin 12) :
    cc0_transform_8 k0_off1_inb numel1_S1 pf (grid0.coords (pt b)) = ![(pf 0 (ix1 b) : BitVec 32).toNat, 0, 0] := by
  rw [← word_at pf b (k0_off1_inb _)]
  rfl

/-! The elements of the input blocks at a request's point. -/

/-- An element of a row's block, of three axes, counted from the array's first element. -/
theorem place3 {p q : Nat} (b : Nat) (h : Fin p) (i : Fin q) (a : Fin 3) :
    (![b, 0, 0] : Fin 3 → Nat) a * (![1, p, q] : Fin 3 → Nat) a + ((ix3 (0 : Fin 1) h i : Shape.Idx ⟨3, ![1, p, q]⟩) a).val = (![b, h.val, i.val] : Fin 3 → Nat) a := by
  fin_cases a <;> simp [ix3]

/-- The same of four axes. -/
theorem place4 {p q r : Nat} (b : Nat) (h : Fin p) (i : Fin q) (n : Fin r) (a : Fin 4) :
    (![b, 0, 0, 0] : Fin 4 → Nat) a * (![1, p, q, r] : Fin 4 → Nat) a + ((ix4 (0 : Fin 1) h i n : Shape.Idx ⟨4, ![1, p, q, r]⟩) a).val = (![b, h.val, i.val, n.val] : Fin 4 → Nat) a := by
  fin_cases a <;> simp [ix4]

/-- A whole array of two axes. -/
theorem place2 {p q : Nat} (h : Fin p) (i : Fin q) (a : Fin 2) :
    (![0, 0] : Fin 2 → Nat) a * (![p, q] : Fin 2 → Nat) a + ((ix2 h i : Shape.Idx ⟨2, ![p, q]⟩) a).val = ((ix2 h i : Shape.Idx ⟨2, ![p, q]⟩) a).val := by
  fin_cases a <;> simp

/-- A request's block of `x`. -/
theorem in0 (hO : Ok m) (b : Fin 12) (h : Fin 128) (i : Fin 64) : iblk m hO c 0 (pt b) (ix3 0 h i) = m ((c : Thread nD τ).loc main_arg0) (ix3 b h i) := by
  refine (congrArg (V m c main_arg0) (funext fun a => Fin.ext ?_)).trans (congrFun (V_main_arg0 m c) _)
  refine (((cfgM m hO).win 0).rect_emb_val (pt b) (ix3 0 h i) a).trans ?_
  show cc0_transform_0 (grid0.coords (pt b)) a * _ + _ = _
  rw [row0]
  refine (place3 _ h i a).trans ?_
  fin_cases a <;> rfl

/-- A request's block of `dt`. -/
theorem in1 (hO : Ok m) (b : Fin 12) (h : Fin 128) : iblk m hO c 1 (pt b) (ix3 0 0 h) = m ((c : Thread nD τ).loc main_arg1) (ix2 b h) := by
  refine (congrArg (V m c main_v0) (funext fun a => Fin.ext ?_)).trans (V_dt m c b h)
  refine (((cfgM m hO).win 1).rect_emb_val (pt b) (ix3 0 0 h) a).trans ?_
  show cc0_transform_1 (grid0.coords (pt b)) a * _ + _ = _
  rw [row1]
  refine (place3 _ 0 h a).trans ?_
  fin_cases a <;> rfl

/-- A request's block of the bias of `dt`. -/
theorem in2 (hO : Ok m) (b : Fin 12) (h : Fin 128) : iblk m hO c 2 (pt b) (ix2 0 h) = m ((c : Thread nD τ).loc main_arg2) (ix1 h) := by
  refine (congrArg (V m c main_v1) (funext fun a => Fin.ext ?_)).trans (V_bias m c h)
  refine (((cfgM m hO).win 2).rect_emb_val (pt b) (ix2 0 h) a).trans ?_
  show cc0_transform_2 (grid0.coords (pt b)) a * _ + _ = _
  rw [row2]
  exact place2 _ _ a

/-- A request's block of `A_log`. -/
theorem in3 (hO : Ok m) (b : Fin 12) (h : Fin 128) : iblk m hO c 3 (pt b) (ix2 0 h) = m ((c : Thread nD τ).loc main_arg3) (ix1 h) := by
  refine (congrArg (V m c main_v2) (funext fun a => Fin.ext ?_)).trans (V_alog m c h)
  refine (((cfgM m hO).win 3).rect_emb_val (pt b) (ix2 0 h) a).trans ?_
  show cc0_transform_3 (grid0.coords (pt b)) a * _ + _ = _
  rw [row3]
  exact place2 _ _ a

/-- A request's block of `B`. -/
theorem in4 (hO : Ok m) (b : Fin 12) (g : Fin 8) (n : Fin 256) : iblk m hO c 4 (pt b) (ix3 0 g n) = m ((c : Thread nD τ).loc main_arg4) (ix3 b g n) := by
  refine (congrArg (V m c main_arg4) (funext fun a => Fin.ext ?_)).trans (congrFun (V_main_arg4 m c) _)
  refine (((cfgM m hO).win 4).rect_emb_val (pt b) (ix3 0 g n) a).trans ?_
  show cc0_transform_4 (grid0.coords (pt b)) a * _ + _ = _
  rw [row4]
  refine (place3 _ g n a).trans ?_
  fin_cases a <;> rfl

/-- A request's block of `C`. -/
theorem in5 (hO : Ok m) (b : Fin 12) (g : Fin 8) (n : Fin 256) : iblk m hO c 5 (pt b) (ix3 0 g n) = m ((c : Thread nD τ).loc main_arg5) (ix3 b g n) := by
  refine (congrArg (V m c main_arg5) (funext fun a => Fin.ext ?_)).trans (congrFun (V_main_arg5 m c) _)
  refine (((cfgM m hO).win 5).rect_emb_val (pt b) (ix3 0 g n) a).trans ?_
  show cc0_transform_5 (grid0.coords (pt b)) a * _ + _ = _
  rw [row5]
  refine (place3 _ g n a).trans ?_
  fin_cases a <;> rfl

/-- A request's block of `D`. -/
theorem in6 (hO : Ok m) (b : Fin 12) (h : Fin 128) : iblk m hO c 6 (pt b) (ix2 0 h) = m ((c : Thread nD τ).loc main_arg6) (ix1 h) := by
  refine (congrArg (V m c main_v3) (funext fun a => Fin.ext ?_)).trans (V_skip m c h)
  refine (((cfgM m hO).win 6).rect_emb_val (pt b) (ix2 0 h) a).trans ?_
  show cc0_transform_6 (grid0.coords (pt b)) a * _ + _ = _
  rw [row6]
  exact place2 _ _ a

/-- A request's block of the codes, that of its slot. -/
theorem in7 (hO : Ok m) (b : Fin 12) (ids : ∀ b : S12.Idx, (m ((c : Thread nD τ).loc main_arg9) b : BitVec 32).toNat < 18) (h : Fin 128) (i : Fin 64) (n : Fin 256) : iblk m hO c 7 (pt b) (ix4 0 h i n) = m ((c : Thread nD τ).loc main_arg7) (ix4 (Step.slot (m ((c : Thread nD τ).loc main_arg9)) ids b) h i n) := by
  refine (congrArg (V m c main_arg7) (funext fun a => Fin.ext ?_)).trans (congrFun (V_main_arg7 m c) _)
  refine (((cfgM m hO).win 7).rect_emb_val (pt b) (ix4 0 h i n) a).trans ?_
  show cc0_transform_7 k0_off1_inb numel1_S1 (tbl m) (grid0.coords (pt b)) a * _ + _ = _
  rw [row7, tbl_eq m c]
  refine (place4 _ h i n a).trans ?_
  fin_cases a <;> rfl

/-- A request's block of the scales, that of its slot. -/
theorem in8 (hO : Ok m) (b : Fin 12) (ids : ∀ b : S12.Idx, (m ((c : Thread nD τ).loc main_arg9) b : BitVec 32).toNat < 18) (h : Fin 128) : iblk m hO c 8 (pt b) (ix3 0 0 h) = m ((c : Thread nD τ).loc main_arg8) (ix2 (Step.slot (m ((c : Thread nD τ).loc main_arg9)) ids b) h) := by
  refine (congrArg (V m c main_v4) (funext fun a => Fin.ext ?_)).trans (V_scale m c (Step.slot (m ((c : Thread nD τ).loc main_arg9)) ids b) h)
  refine (((cfgM m hO).win 8).rect_emb_val (pt b) (ix3 0 0 h) a).trans ?_
  show cc0_transform_8 k0_off1_inb numel1_S1 (tbl m) (grid0.coords (pt b)) a * _ + _ = _
  rw [row8, tbl_eq m c]
  refine (place3 _ 0 h a).trans ?_
  fin_cases a <;> rfl

end Cert.KernelIdeal.Entry

end
-- ==== Proof.KernelResult.lean ====
module

public import proofs.«01_k».proof.Proof.HeadsIdeal
public import proofs.«01_k».proof.Proof.KernelEntry
public import proofs.«01_k».proof.Proof.Pre

@[expose] public section

set_option maxRecDepth 16384

noncomputable section

/-! The kernel's run: its three result arrays, element by element, in the arguments. Each request's point writes the request's own
    rows of the results, and no other point writes them. -/

namespace Cert.KernelIdeal.Result

open Cert.KernelIdeal Cert.KernelIdeal.Gen Idealize.ShloMosaic Idealize.ShloMosaic.TcCoe Idealize.SL.Sem
open Idealize.ShloMosaic.Pipeline (Dat)

section run
variable {F : FTy → Type} [FloatOps F]
variable (m : (ℓ : Loc nD τ sig) → Buf (Elt F) ℓ) (ρ : Dev nD → PrngReg) (hO : Ok m)

/-- The last host line makes a two-axis array of the scales the region left. -/
theorem tail_scale (c : Dev nD) : Pipeline.afterTail pcfgs (fun _ => adm m hO) (dats m hO) 0 (V0 m) [hostOps1] c main_v6
    = shapeCast S12x128 ((dats m hO 0 c).arrAt 11 (cfgM m hO).N) shapeCasts_S12x1x128_S12x128 := by
  unfold Pipeline.afterTail
  show StableHlo.after hostOps1 _ (Proc.devRef .tc main_v6) = _
  after_results
  exact congrArg (fun X => shapeCast S12x128 X shapeCasts_S12x1x128_S12x128)
    (Pipeline.withArrays_arr spec0 (by decide) c (V0 m c) (fun w => (dats m hO 0 c).arrAt w (cfgM m hO).N) 11)

/-- The scales as the run returns them. -/
def scales (c : Dev nD) : Vec F S12x128 .f32 := shapeCast S12x128 ((dats m hO 0 c).arrAt 11 (cfgM m hO).N) shapeCasts_S12x1x128_S12x128

/-- The frame run with each result array after the run named, the arguments unchanged. -/
theorem run_blocks : θ_run defs (onTc (τ := τ) (main (F := F))) ⟨m, fun _ => 0, ρ⟩ fun r => ∀ c : Dev nD,
      r.2.mem ((c : Thread nD τ).loc main_v5_0) = (dats m hO 0 c).arrAt 9 (cfgM m hO).N
      ∧ r.2.mem ((c : Thread nD τ).loc main_v5_1) = (dats m hO 0 c).arrAt 10 (cfgM m hO).N
      ∧ r.2.mem ((c : Thread nD τ).loc main_v6) = scales m hO c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h.2 c).1 9, (h.2 c).1 10,
      ((h.2 c).2 main_v6 (by decide : main_v6 ∈ Pipeline.restRefs sig spec0)).trans (tail_scale m hO c), h.1 c⟩)
    (θ_run_and (unchanged m ρ hO) (run_main m ρ hO))

end run

section values
variable (m : (ℓ : Loc nD τ sig) → Buf (Elt Ideal) ℓ) (c : Dev nD) (hO : Ok m) (ids : ∀ b : S12.Idx, (m ((c : Thread nD τ).loc main_arg9) b : BitVec 32).toNat < 18)
  (b : Fin 12) (h : Fin 128) (i : Fin 64) (n : Fin 256)

/-- The body's new state, at a request's point, is the decode step's. -/
theorem state_eq : Heads.blockState (iblk m hO c 0 (Entry.pt b)) (iblk m hO c 1 (Entry.pt b)) (iblk m hO c 2 (Entry.pt b)) (iblk m hO c 3 (Entry.pt b)) (iblk m hO c 4 (Entry.pt b)) (iblk m hO c 7 (Entry.pt b)) (iblk m hO c 8 (Entry.pt b)) h i n
    = Step.newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) ids b h i n := by
  unfold Heads.blockState
  rw [Entry.in0, Entry.in1, Entry.in2, Entry.in3, Entry.in4, Entry.in7 m c hO b ids, Entry.in8 m c hO b ids]
  rfl

/-- The body's greatest magnitude, at a request's point, is the decode step's. -/
theorem greatest_eq : Heads.blockMax (iblk m hO c 0 (Entry.pt b)) (iblk m hO c 1 (Entry.pt b)) (iblk m hO c 2 (Entry.pt b)) (iblk m hO c 3 (Entry.pt b)) (iblk m hO c 4 (Entry.pt b)) (iblk m hO c 7 (Entry.pt b)) (iblk m hO c 8 (Entry.pt b)) h
    = Step.newMax (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) ids b h :=
  congrArg Step.amax (funext fun i => funext fun n => state_eq m c hO ids b h i n)

/-! An element of a request's block of a result, counted from the array's first element. -/

/-- Where an element of a request's block lies in the result. -/
theorem place9 : (((cfgM m hO).win 9).blk (Entry.pt b)).view.emb (ix3 0 h i) = ix3 b h i := by
  refine funext fun a => Fin.ext ?_
  refine (((cfgM m hO).win 9).rect_emb_val (Entry.pt b) (ix3 0 h i) a).trans ?_
  show cc0_transform_9 (grid0.coords (Entry.pt b)) a * _ + _ = _
  rw [Entry.row9]
  refine (Entry.place3 _ h i a).trans ?_
  fin_cases a <;> rfl

/-- Where an element of a request's block lies in the new codes. -/
theorem place10 : (((cfgM m hO).win 10).blk (Entry.pt b)).view.emb (ix4 0 h i n) = ix4 b h i n := by
  refine funext fun a => Fin.ext ?_
  refine (((cfgM m hO).win 10).rect_emb_val (Entry.pt b) (ix4 0 h i n) a).trans ?_
  show cc0_transform_10 (grid0.coords (Entry.pt b)) a * _ + _ = _
  rw [Entry.row10]
  refine (Entry.place4 _ h i n a).trans ?_
  fin_cases a <;> rfl

/-- Where an element of a request's block lies in the new scales. -/
theorem place11 : (((cfgM m hO).win 11).blk (Entry.pt b)).view.emb (ix3 0 0 h) = ix3 b 0 h := by
  refine funext fun a => Fin.ext ?_
  refine (((cfgM m hO).win 11).rect_emb_val (Entry.pt b) (ix3 0 0 h) a).trans ?_
  show cc0_transform_11 (grid0.coords (Entry.pt b)) a * _ + _ = _
  rw [Entry.row11]
  refine (Entry.place3 _ 0 h a).trans ?_
  fin_cases a <;> rfl

/-! Two points write different rows. -/

/-- Two points write different elements of the result. -/
theorem apart9 (t t' : Fin (cfgM m hO).N) (hne : t ≠ t') : Disjoint (((cfgM m hO).win 9).blk t).view.set (((cfgM m hO).win 9).blk t').view.set := by
  refine ((cfgM m hO).win 9).disjoint_blk fun e => hne (Fin.ext ?_)
  have e : cc0_transform_9 (grid0.coords t) = cc0_transform_9 (grid0.coords t') := e
  rw [Entry.row9, Entry.row9] at e
  exact congrFun e 0

/-- Two points write different elements of the new codes. -/
theorem apart10 (t t' : Fin (cfgM m hO).N) (hne : t ≠ t') : Disjoint (((cfgM m hO).win 10).blk t).view.set (((cfgM m hO).win 10).blk t').view.set := by
  refine ((cfgM m hO).win 10).disjoint_blk fun e => hne (Fin.ext ?_)
  have e : cc0_transform_10 (grid0.coords t) = cc0_transform_10 (grid0.coords t') := e
  rw [Entry.row10, Entry.row10] at e
  exact congrFun e 0

/-- Two points write different elements of the new scales. -/
theorem apart11 (t t' : Fin (cfgM m hO).N) (hne : t ≠ t') : Disjoint (((cfgM m hO).win 11).blk t).view.set (((cfgM m hO).win 11).blk t').view.set := by
  refine ((cfgM m hO).win 11).disjoint_blk fun e => hne (Fin.ext ?_)
  have e : cc0_transform_11 (grid0.coords t) = cc0_transform_11 (grid0.coords t') := e
  rw [Entry.row11, Entry.row11] at e
  exact congrFun e 0

/-! What a request's point writes back. -/

/-- In the result, a request's elements are what its point leaves. -/
theorem wrote9 : (dats m hO 0 c).arrAt 9 (cfgM m hO).N (ix3 b h i) = (outsAt0 m hO c (Entry.pt b)).1 (ix3 0 h i) := by
  have e := (dats m hO 0 c).arrAt_emb_eq_flushed 9 (fun t t' _ _ => apart9 m hO t t') (Entry.pt b) (flush0_9 _ _) (ix3 0 h i)
  rw [place9 m hO b h i] at e
  refine e.trans ?_
  exact congrFun (after0_9 m hO c (Entry.pt b)) (ix3 0 h i)

/-- In the new codes, a request's elements are what its point leaves. -/
theorem wrote10 : (dats m hO 0 c).arrAt 10 (cfgM m hO).N (ix4 b h i n) = (outsAt0 m hO c (Entry.pt b)).2.1 (ix4 0 h i n) := by
  have e := (dats m hO 0 c).arrAt_emb_eq_flushed 10 (fun t t' _ _ => apart10 m hO t t') (Entry.pt b) (flush0_10 _ _) (ix4 0 h i n)
  rw [place10 m hO b h i n] at e
  refine e.trans ?_
  exact congrFun (after0_10 m hO c (Entry.pt b)) (ix4 0 h i n)

/-- In the new scales, a request's elements are what its point leaves. -/
theorem wrote11 : (dats m hO 0 c).arrAt 11 (cfgM m hO).N (ix3 b 0 h) = (outsAt0 m hO c (Entry.pt b)).2.2 (ix3 0 0 h) := by
  have e := (dats m hO 0 c).arrAt_emb_eq_flushed 11 (fun t t' _ _ => apart11 m hO t t') (Entry.pt b) (flush0_11 _ _) (ix3 0 0 h)
  rw [place11 m hO b h] at e
  refine e.trans ?_
  exact congrFun (after0_11 m hO c (Entry.pt b)) (ix3 0 0 h)

/-! What the body leaves at a point, in the point's input blocks. -/

/-- What the body leaves at a point of the result. -/
theorem left9 (t : Fin (cfgM m hO).N) : (outsAt0 m hO c t).1 = out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) := by
  rw [outsAt0]

/-- What the body leaves at a point of the new codes. -/
theorem left10 (t : Fin (cfgM m hO).N) : (outsAt0 m hO c t).2.1 = out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) := by
  rw [outsAt0]

/-- What the body leaves at a point of the new scales. -/
theorem left11 (t : Fin (cfgM m hO).N) : (outsAt0 m hO c t).2.2 = out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) := by
  rw [outsAt0]

/-- A new code the body leaves at a point. -/
theorem code_left (t : Fin (cfgM m hO).N) : (outsAt0 m hO c t).2.1 (ix4 0 h i n)
    = Step.code (Heads.blockMax (iblk m hO c 0 t) (iblk m hO c 1 t) (iblk m hO c 2 t) (iblk m hO c 3 t) (iblk m hO c 4 t) (iblk m hO c 7 t) (iblk m hO c 8 t) h) (Heads.blockState (iblk m hO c 0 t) (iblk m hO c 1 t) (iblk m hO c 2 t) (iblk m hO c 3 t) (iblk m hO c 4 t) (iblk m hO c 7 t) (iblk m hO c 8 t) h i n) :=
  (congrFun (left10 m c hO t) (ix4 0 h i n)).trans (Heads.block_codes c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) h i n)

/-- A new scale the body leaves at a point. -/
theorem scale_left (t : Fin (cfgM m hO).N) : (outsAt0 m hO c t).2.2 (ix3 0 0 h) = Step.scale (Heads.blockMax (iblk m hO c 0 t) (iblk m hO c 1 t) (iblk m hO c 2 t) (iblk m hO c 3 t) (iblk m hO c 4 t) (iblk m hO c 7 t) (iblk m hO c 8 t) h) :=
  (congrFun (left11 m c hO t) (ix3 0 0 h)).trans (Heads.block_scale c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) h)

/-- The kernel's new codes. -/
theorem codes_eq : (dats m hO 0 c).arrAt 10 (cfgM m hO).N (ix4 b h i n) = Step.newCode (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) ids b h i n := by
  rw [wrote10]
  refine (code_left m c hO h i n (Entry.pt b)).trans ?_
  rw [state_eq m c hO ids, greatest_eq m c hO ids]
  rfl

/-- The kernel's new scales. -/
theorem scales_eq : scales m hO c (ix2 b h) = Step.newScale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) ids b h := by
  unfold scales
  pointwise
  refine (wrote11 m c hO b h).trans ?_
  refine (scale_left m c hO h (Entry.pt b)).trans ?_
  rw [greatest_eq m c hO ids]
  rfl

/-- The kernel's result, when the step's inputs are finite and the old scales are not negative. -/
theorem y_eq (H : Pre.Step (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9))) : (dats m hO 0 c).arrAt 9 (cfgM m hO).N (ix3 b h i) = Step.newOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ids b h i := by
  rw [wrote9]
  refine (congrFun (left9 m c hO (Entry.pt b)) (ix3 0 h i)).trans ?_
  have e := Heads.block_y c (grid0.coords (Entry.pt b)) (ms0_0 m hO (Entry.pt b)) (hs0_0 m hO (Entry.pt b)) (ms0_1 m hO (Entry.pt b)) (hs0_1 m hO (Entry.pt b)) (ms0_2 m hO (Entry.pt b)) (hs0_2 m hO (Entry.pt b)) (ms0_3 m hO (Entry.pt b)) (hs0_3 m hO (Entry.pt b)) (ms0_4 m hO (Entry.pt b)) (hs0_4 m hO (Entry.pt b)) (ms0_5 m hO (Entry.pt b)) (hs0_5 m hO (Entry.pt b)) (ms0_6 m hO (Entry.pt b)) (hs0_6 m hO (Entry.pt b)) (ms0_7 m hO (Entry.pt b)) (hs0_7 m hO (Entry.pt b)) (ms0_8 m hO (Entry.pt b)) (hs0_8 m hO (Entry.pt b)) (ms0_9 m hO (Entry.pt b)) (hs0_9 m hO (Entry.pt b)) (ms0_10 m hO (Entry.pt b)) (hs0_10 m hO (Entry.pt b)) (ms0_11 m hO (Entry.pt b)) (hs0_11 m hO (Entry.pt b)) scM0_0 (Memref.isWhole_whole _) scM0_1 (Memref.isWhole_whole _) scM0_2 (Memref.isWhole_whole _) (iblk m hO c 0 (Entry.pt b)) (iblk m hO c 1 (Entry.pt b)) (iblk m hO c 2 (Entry.pt b)) (iblk m hO c 3 (Entry.pt b)) (iblk m hO c 4 (Entry.pt b)) (iblk m hO c 5 (Entry.pt b)) (iblk m hO c 6 (Entry.pt b)) (iblk m hO c 7 (Entry.pt b)) (iblk m hO c 8 (Entry.pt b)) (tbl m 0) h i
  refine (e ?_ ?_ ?_ ?_ ?_ ?_).trans ?_
  · rw [Entry.in0]; exact H.x _
  · rw [Entry.in1]; exact H.dt _
  · rw [Entry.in2]; exact H.bias _
  · intro n; rw [Entry.in4]; exact H.B _
  · intro n; rw [Entry.in5]; exact H.C _
  · rw [Entry.in8 m c hO b ids]; exact H.scale _
  · rw [show Heads.blockState (iblk m hO c 0 (Entry.pt b)) (iblk m hO c 1 (Entry.pt b)) (iblk m hO c 2 (Entry.pt b)) (iblk m hO c 3 (Entry.pt b)) (iblk m hO c 4 (Entry.pt b)) (iblk m hO c 7 (Entry.pt b)) (iblk m hO c 8 (Entry.pt b)) h i = _ from funext fun n => state_eq m c hO ids b h i n, Entry.in0, Entry.in6,
      show (fun n : Fin 256 => iblk m hO c 5 (Entry.pt b) (ix3 0 (Heads.group h) n)) = _ from funext fun n => Entry.in5 m c hO b (Heads.group h) n]
    rfl

end values

end Cert.KernelIdeal.Result

end
-- ==== Proof.RefIdeal.lean ====
module

public import proofs.«01_k».proof.Proof.Gen.ReferenceIdeal.Frame
public import proofs.«01_k».proof.Proof.Step
public import Idealize.ShloMosaic.Lib.Pointwise
public import Idealize.ShloMosaic.Lib.Pipeline.Value

@[expose] public section

set_option maxRecDepth 16384

noncomputable section

/-! The reference body's three outputs over the extended reals, in the scalars of the decode step. -/

namespace Cert.ReferenceIdeal.Body

open Idealize.ShloMosaic Idealize.ShloMosaic.TcCoe Idealize.SL.Sem Cert.ReferenceIdeal Cert.ReferenceIdeal.Gen

/-- The group of a head. -/
def group (h : Fin 128) : Fin 8 := ⟨h.val / 16, by omega⟩

section
variable (x0 : Vec Ideal S12x128x64 .bf16) (x1 : Vec Ideal S12x128 .bf16) (x2 x3 : Vec Ideal S128 .f32) (x4 x5 : Vec Ideal S12x8x256 .bf16)
  (x6 : Vec Ideal S128 .f32) (x7 : Vec Ideal S12x128x64x256 .fp8e4m3) (x8 : Vec Ideal S12x128 .f32)
  (b : Fin 12) (h : Fin 128) (i : Fin 64) (n : Fin 256)

/-- The step size of a request's head. -/
theorem delta_at : k0_pay5 x1 x2 (ix2 b h) = Step.delta (x1 (ix2 b h)) (x2 (ix1 h)) := by
  unfold k0_pay5
  pointwise
  rw [if_neg (not_not.2 rfl)]
  rfl

/-- The decay of a request's head. -/
theorem decay_at : k0_pay6 x1 x2 x3 (ix2 b h) = Step.decay (x3 (ix1 h)) (x1 (ix2 b h)) (x2 (ix1 h)) := by
  unfold k0_pay6
  pointwise
  rw [delta_at]
  rfl

/-- An entry of the old state, out of its code and scale. -/
theorem old_at : k0_pay4 x7 x8 (ix4 b h i n) = x7 (ix4 b h i n) * x8 (ix2 b h) := by
  unfold k0_pay4
  pointwise

/-- A head's row of `B` is its group's. -/
theorem repeatB_at : k0_pay7 x4 (ix3 b h n) = x4 (ix3 b (group h) n) := by
  unfold k0_pay7
  pointwise
  rfl

/-- An entry of the new state of a request's head. -/
def state : EReal :=
  Step.state (x3 (ix1 h)) (x1 (ix2 b h)) (x2 (ix1 h)) (x7 (ix4 b h i n)) (x8 (ix2 b h)) (x0 (ix3 b h i)) (x4 (ix3 b (group h) n))

/-- An entry of the new state, as the reference computes it. -/
theorem state_at : k0_pay9 (k0_pay4 x7 x8) (k0_pay5 x1 x2) (k0_pay6 x1 x2 x3) (k0_pay7 x4) x0 (ix4 b h i n) = state x0 x1 x2 x3 x4 x7 x8 b h i n := by
  unfold k0_pay9 k0_pay8
  pointwise
  rw [delta_at, decay_at, old_at, repeatB_at]
  rfl

/-- The greatest magnitude of a head's new state. -/
def greatest : EReal := Step.amax (state x0 x1 x2 x3 x4 x7 x8 b h)

/-- An entry of the result, as the reference computes it. -/
theorem out_at : k0_pay10 (k0_pay4 x7 x8) (k0_pay5 x1 x2) (k0_pay6 x1 x2 x3) (k0_pay7 x4) x5 x0 x6 (ix3 b h i)
    = Step.out (state x0 x1 x2 x3 x4 x7 x8 b h i) (fun n => x5 (ix3 b (group h) n)) (x6 (ix1 h)) (x0 (ix3 b h i)) := by
  unfold k0_pay10 k0_pay8
  pointwise
  unfold Step.out
  congr 1
  refine Finset.sum_congr rfl fun k _ => ?_
  rw [state_at]
  rfl

/-- The exponents out of the greatest magnitudes. -/
def exponents (a : FVec Ideal S12x128 .f32) : FVec Ideal S12x128 .f32 :=
  select (cmpf .oeq a (broadcast S12x128 (Scalar.ofBits (F := Ideal) .f32 0x00000000#32))) (broadcast S12x128 (Scalar.ofBits (F := Ideal) .f32 0x00000000#32))
    (minimumf (broadcast S12x128 (Scalar.ofBits (F := Ideal) .f32 0x42F00000#32)) (maximumf (broadcast S12x128 (Scalar.ofBits (F := Ideal) .f32 0xC2FC0000#32))
      (addf (floor (divf (log (mulf a (broadcast S12x128 (Scalar.ofBits (F := Ideal) .f32 0x3B124925#32)))) (log (broadcast S12x128 (Scalar.ofBits (F := Ideal) .f32 0x40000000#32)))))
        (broadcast S12x128 (Scalar.ofBits (F := Ideal) .f32 0x3F800000#32)))))

/-- The exponent of a greatest magnitude that is not negative. -/
theorem exponents_at (a : FVec Ideal S12x128 .f32) (ha : 0 ≤ (a (ix2 b h) : EReal)) :
    exponents a (ix2 b h) = (((Expo.expo Step.recip (a (ix2 b h)) : ℤ) : ℝ) : EReal) := by
  have h120 : Ideal.ofBits .f32 0x42F00000#32 = ((120 : ℝ) : EReal) := by
    show Ideal.ieee 8 23 0x42F00000#32 = _
    simp [Ideal.ieee, -EReal.coe_mul, -EReal.coe_neg]
    norm_num
  have h126 : Ideal.ofBits .f32 0xC2FC0000#32 = ((-126 : ℝ) : EReal) := by
    show Ideal.ieee 8 23 0xC2FC0000#32 = _
    simp [Ideal.ieee, -EReal.coe_mul, -EReal.coe_neg]
    norm_num
  have h2 : Ideal.ofBits .f32 0x40000000#32 = 2 := by
    show Ideal.ieee 8 23 0x40000000#32 = ((2 : ℝ) : EReal)
    simp [Ideal.ieee, -EReal.coe_mul, -EReal.coe_neg]
    norm_num
  have hr : 0 < Step.recip := by
    show (0 : EReal) < Ideal.ieee 8 23 0x3B124925#32
    simp [Ideal.ieee, -EReal.coe_mul]
  rw [← Expo.floorLog_expo _ _ hr ha]
  unfold exponents
  pointwise
  rw [h120, h126, h2]
  rfl

/-- The greatest magnitudes of the heads' new states. -/
def greatests (w : FVec Ideal S12x128x64x256 .f32) : FVec Ideal S12x128 .f32 :=
  multiReduction .maximumf [2, 3] S12x128 (absf w) 0xFF800000#32 reduces_S12x128x64x256_S12x128 (.inl rfl) rfl

/-- The greatest magnitude of one head. -/
theorem greatests_at (w : FVec Ideal S12x128x64x256 .f32) : greatests w (ix2 b h) = Step.amax fun i n => w (ix4 b h i n) := by
  unfold greatests
  pointwise
  rfl

/-- A greatest magnitude is not negative. -/
theorem greatest_nonneg : 0 ≤ greatest x0 x1 x2 x3 x4 x7 x8 b h :=
  Step.amax_nonneg _

/-- The exponent the reference's body computes for a head. -/
theorem exponent_at : k0_pay11 (k0_pay4 x7 x8) (k0_pay5 x1 x2) (k0_pay6 x1 x2 x3) (k0_pay7 x4) x0 (ix2 b h)
    = (((Expo.expo Step.recip (greatest x0 x1 x2 x3 x4 x7 x8 b h) : ℤ) : ℝ) : EReal) := by
  have hg : greatests (k0_pay9 (k0_pay4 x7 x8) (k0_pay5 x1 x2) (k0_pay6 x1 x2 x3) (k0_pay7 x4) x0) (ix2 b h) = greatest x0 x1 x2 x3 x4 x7 x8 b h := by
    rw [greatests_at]
    unfold greatest
    congr 1
    funext i n
    exact state_at x0 x1 x2 x3 x4 x7 x8 b h i n
  have h0 := greatest_nonneg x0 x1 x2 x3 x4 x7 x8 b h
  rw [← hg] at h0 ⊢
  exact exponents_at b h _ h0

/-- A scale is two to its exponent. -/
theorem scales_at (e : FVec Ideal S12x128 .f32) : k0_pay1 e (ix2 b h) = Ideal.exp2 (e (ix2 b h)) := by
  unfold k0_pay1
  pointwise
  rfl

/-- A code is the entry times two to the negated exponent, clipped. -/
theorem codes_at (w : FVec Ideal S12x128x64x256 .f32) (e : FVec Ideal S12x128 .f32) : k0_pay2 w e (ix4 b h i n)
    = min (Ideal.ofBits .f32 0x43E00000#32) (max (Ideal.ofBits .f32 0xC3E00000#32) (w (ix4 b h i n) * Ideal.exp2 (0 - e (ix2 b h)))) := by
  unfold k0_pay2
  pointwise
  rfl

/-- The origin, in each rank. -/
theorem zeros2 : ![0, 0] = fun _ : Fin 2 => 0 := by decide
/-- The origin in three axes. -/
theorem zeros3 : ![0, 0, 0] = fun _ : Fin 3 => 0 := by decide
/-- The origin in four axes. -/
theorem zeros4 : ![0, 0, 0, 0] = fun _ : Fin 4 => 0 := by decide
/-- The origin in one axis. -/
theorem zeros1 : ![0] = fun _ : Fin 1 => 0 := by decide

/-- The load of `x` reads the whole array. -/
theorem ld0 : View.ld x0 r0_4 = x0 := View.ld_unit_zero zeros3 _ x0
/-- The load of `dt` reads the whole array. -/
theorem ld1 (x : Vec Ideal S12x128 .bf16) : View.ld x r0_1 = x := View.ld_unit_zero zeros2 _ x
/-- The load of a row of heads reads the whole row. -/
theorem ld2 (x : Vec Ideal S128 .f32) : View.ld x r0_2 = x := View.ld_unit_zero zeros1 _ x
/-- The load of `B` or `C` reads the whole array. -/
theorem ld4 (x : Vec Ideal S12x8x256 .bf16) : View.ld x r0_3 = x := View.ld_unit_zero zeros3 _ x
/-- The load of the codes reads the whole array. -/
theorem ld7 : View.ld x7 r0_0 = x7 := View.ld_unit_zero zeros4 _ x7
/-- The load of the scales reads the whole array. -/
theorem ld8 : View.ld x8 r0_1 = x8 := View.ld_unit_zero zeros2 _ x8

/-- The old state out of the loaded arrays. -/
theorem part12 : k0_pay12 x0 x1 x2 x3 x4 x5 x6 x7 x8 = k0_pay4 x7 x8 := by unfold k0_pay12; rw [ld7, ld8]
/-- The step sizes out of the loaded arrays. -/
theorem part13 : k0_pay13 x0 x1 x2 x3 x4 x5 x6 x7 x8 = k0_pay5 x1 x2 := by unfold k0_pay13; rw [ld1, ld2]
/-- The decays out of the loaded arrays. -/
theorem part14 : k0_pay14 x0 x1 x2 x3 x4 x5 x6 x7 x8 = k0_pay6 x1 x2 x3 := by unfold k0_pay14; rw [ld1, ld2, ld2]
/-- The repeated rows of `B` out of the loaded arrays. -/
theorem part15 : k0_pay15 x0 x1 x2 x3 x4 x5 x6 x7 x8 = k0_pay7 x4 := by unfold k0_pay15; rw [ld4]
/-- The exponents out of the loaded arrays. -/
theorem part16 : k0_pay16 x0 x1 x2 x3 x4 x5 x6 x7 x8 = k0_pay11 (k0_pay4 x7 x8) (k0_pay5 x1 x2) (k0_pay6 x1 x2 x3) (k0_pay7 x4) x0 := by
  unfold k0_pay16; rw [part12, part13, part14, part15, ld0]

/-- The reference's new scale of a head. -/
theorem scale_out : out0_11 x0 x1 x2 x3 x4 x5 x6 x7 x8 (ix2 b h) = Step.scale (greatest x0 x1 x2 x3 x4 x7 x8 b h) := by
  refine (congrFun (View.canon_unit_zero zeros2 _ _) (ix2 b h)).trans ?_
  rw [part16, scales_at, exponent_at, Expo.exp2_int]
  rfl

/-- The reference's new codes. -/
theorem codes_out : out0_10 x0 x1 x2 x3 x4 x5 x6 x7 x8 (ix4 b h i n)
    = Step.code (greatest x0 x1 x2 x3 x4 x7 x8 b h) (state x0 x1 x2 x3 x4 x7 x8 b h i n) := by
  refine (congrFun (View.canon_unit_zero zeros4 _ _) (ix4 b h i n)).trans ?_
  rw [part16, part12, part13, part14, part15, ld0, codes_at, exponent_at, Expo.exp2_neg_int, state_at]
  rfl

/-- The reference's result. -/
theorem y_out : out0_9 x0 x1 x2 x3 x4 x5 x6 x7 x8 (ix3 b h i)
    = Step.out (state x0 x1 x2 x3 x4 x7 x8 b h i) (fun n => x5 (ix3 b (group h) n)) (x6 (ix1 h)) (x0 (ix3 b h i)) := by
  refine (congrFun (View.canon_unit_zero zeros3 _ _) (ix3 b h i)).trans ?_
  rw [part12, part13, part14, part15, ld0, ld2, ld4, ← out_at x0 x1 x2 x3 x4 x5 x6 x7 x8 b h i]
  rfl

end

end Cert.ReferenceIdeal.Body

end
-- ==== Proof.RefEntry.lean ====
module

public import proofs.«01_k».proof.Proof.Gen.ReferenceIdeal.Frame
public import Idealize.ShloMosaic.Lib.Pointwise
public import Idealize.ShloMosaic.Lib.Claim

@[expose] public section

set_option maxRecDepth 16384

noncomputable section

/-! What the reference gathers out of the pool before its body runs: a request's codes and scales. -/

namespace Cert.ReferenceIdeal.Entry

open Idealize.ShloMosaic Idealize.ShloMosaic.TcCoe Idealize.SL.Sem Cert.ReferenceIdeal Cert.ReferenceIdeal.Gen

variable {F : FTy → Type} [FloatOps F] (m : (ℓ : Loc nD τ sig) → Buf (Elt F) ℓ) (c : Dev nD)

/-- The rows to gather: each request's slot, a negative one counted from the end. -/
def rows (ids : IVec S12 32) : IVec S12x1 32 :=
  broadcastInDim S12x1 ![0] bcast_S12_S12x1_0
    (select (cmpi .slt ids (broadcastInDim S12 ![] bcast_S_S12 (constantI S_ 32 0#32)))
      (addi ids (broadcastInDim S12 ![] bcast_S_S12 (constantI S_ 32 18#32))) ids)

/-- The codes the body is given. -/
theorem V_codes : V m c main_v6 = Host.gather gather_S18x128x64x256_S12x1_S12x128x64x256_123_0_n_n_0_1_112864256
    (m ((c : Thread nD τ).loc main_arg7)) (rows (m ((c : Thread nD τ).loc main_arg9))) := by
  show StableHlo.after hostOps0 _ (Proc.devRef .tc main_v6) = _
  after_results
  rfl

/-- The scales the body is given. -/
theorem V_scales : V m c main_v13 = Host.gather gather_S18x128_S12x1_S12x128_1_0_n_n_0_1_1128
    (m ((c : Thread nD τ).loc main_arg8)) (rows (m ((c : Thread nD τ).loc main_arg9))) := by
  show StableHlo.after hostOps0 _ (Proc.devRef .tc main_v13) = _
  after_results
  rfl

section
variable (ids : IVec S12 32) (b : Fin 12)

/-- A request's slot in the pool is the row gathered for it. -/
theorem rows_at (h : (ids (ix1 b)).toNat < 18) : rows ids (ix2 b 0) = ids (ix1 b) := by
  have hs : (ids (ix1 b)).slt 0#32 = false := by
    rw [BitVec.slt_eq_decide, BitVec.toInt_eq_toNat_of_lt (by omega)]
    simp
  unfold rows
  pointwise
  have hc : IntOp.cmpi .slt (ids (ix1 b)) 0#32 = 0#1 := by
    show BitVec.ofBool ((ids (ix1 b)).slt 0#32) = _
    rw [hs]
    rfl
  rw [hc]
  rfl

/-- The row is in range, so the gather's clamp leaves it. -/
theorem clamp_row (h : (ids (ix1 b)).toNat < 18) : min (rows ids (ix2 b 0)).toInt.toNat 17 = (ids (ix1 b)).toNat := by
  rw [rows_at ids b h, BitVec.toInt_eq_toNat_of_lt (by omega), Int.toNat_natCast]
  omega

/-- An entry of the gathered scales. -/
theorem scales_at {α : Type} (x : S18x128.Idx → α) (h : (ids (ix1 b)).toNat < 18) (k : Fin 128) :
    Host.gather gather_S18x128_S12x1_S12x128_1_0_n_n_0_1_1128 x (rows ids) (ix2 b k) = x (ix2 ⟨(ids (ix1 b)).toNat, h⟩ k) := by
  unfold Host.gather
  congr 1
  funext a
  apply Fin.ext
  match a with
  | ⟨0, _⟩ =>
    refine Eq.trans ?_ (clamp_row ids b h)
    rw [show ix2 b (0 : Fin 1) = GatherDims.siIdx gather_S18x128_S12x1_S12x128_1_0_n_n_0_1_1128 (ix2 b k) ⟨0, by decide⟩ from by
      funext a; match a with | ⟨0, _⟩ => rfl | ⟨1, _⟩ => rfl]
    rfl
  | ⟨1, _⟩ => exact Nat.zero_add _

/-- An entry of the gathered codes. -/
theorem codes_at {α : Type} (x : S18x128x64x256.Idx → α) (h : (ids (ix1 b)).toNat < 18) (k : Fin 128) (i : Fin 64) (n : Fin 256) :
    Host.gather gather_S18x128x64x256_S12x1_S12x128x64x256_123_0_n_n_0_1_112864256 x (rows ids) (ix4 b k i n)
      = x (ix4 ⟨(ids (ix1 b)).toNat, h⟩ k i n) := by
  unfold Host.gather
  congr 1
  funext a
  apply Fin.ext
  match a with
  | ⟨0, _⟩ =>
    refine Eq.trans ?_ (clamp_row ids b h)
    rw [show ix2 b (0 : Fin 1) = GatherDims.siIdx gather_S18x128x64x256_S12x1_S12x128x64x256_123_0_n_n_0_1_112864256 (ix4 b k i n) ⟨0, by decide⟩ from by
      funext a; match a with | ⟨0, _⟩ => rfl | ⟨1, _⟩ => rfl]
    rfl
  | ⟨1, _⟩ => exact Nat.zero_add _
  | ⟨2, _⟩ => exact Nat.zero_add _
  | ⟨3, _⟩ => exact Nat.zero_add _

end

end Cert.ReferenceIdeal.Entry

end
-- ==== Proof.RefResult.lean ====
module

public import proofs.«01_k».proof.Proof.RefIdeal
public import proofs.«01_k».proof.Proof.RefEntry
public import proofs.«01_k».proof.Proof.Decode

@[expose] public section

set_option maxRecDepth 16384

noncomputable section

/-! The reference's run: its three result arrays, element by element, in the arguments. The body runs once, on whole arrays. -/

namespace Cert.ReferenceIdeal.Result

open Cert.ReferenceIdeal Cert.ReferenceIdeal.Gen Idealize.ShloMosaic Idealize.ShloMosaic.TcCoe Idealize.SL.Sem
open Idealize.ShloMosaic.Pipeline (Dat)

section run
variable {F : FTy → Type} [FloatOps F]
variable (m : (ℓ : Loc nD τ sig) → Buf (Elt F) ℓ) (ρ : Dev nD → PrngReg)

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v14_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v14_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v14_2) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v14_0) = (dats m 0 c).arrAt 9 cfg0.N
      ∧ r.2.mem ((c : Thread nD τ).loc main_v14_1) = (dats m 0 c).arrAt 10 cfg0.N
      ∧ r.2.mem ((c : Thread nD τ).loc main_v14_2) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post9 m r h c,
      post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end run

section blocks
variable (m : (ℓ : Loc nD τ sig) → Buf (Elt Ideal) ℓ) (c : Dev nD) (t : Fin cfg0.N)

/-- A window over its whole array shows the array's own indices. -/
theorem emb_whole (w : Fin cfg0.W) (h : ∀ a, (cfg0.win w).index t a = 0) (y : ((cfg0.win w).xblock (cfg0.grid.coords t)).Idx) (a) :
    (((cfg0.win w).rect t).emb y a : Nat) = y a :=
  (cfg0.win w).rect_emb_val_of_index_zero t a (h a) y

/-! Each input's block is its whole array. -/

/-- The body's block of `x` is the whole array. -/
theorem in0 : iblk m c 0 t = V m c main_arg0 :=
  funext fun j => congrArg (V m c main_arg0) (funext fun a => Fin.ext (emb_whole t 0 (fun _ => rfl) j a))
/-- The body's block of `dt` is the whole array. -/
theorem in1 : iblk m c 1 t = V m c main_arg1 :=
  funext fun j => congrArg (V m c main_arg1) (funext fun a => Fin.ext (emb_whole t 1 (fun _ => rfl) j a))
/-- The body's block of the bias of `dt` is the whole array. -/
theorem in2 : iblk m c 2 t = V m c main_arg2 :=
  funext fun j => congrArg (V m c main_arg2) (funext fun a => Fin.ext (emb_whole t 2 (fun _ => rfl) j a))
/-- The body's block of `A_log` is the whole array. -/
theorem in3 : iblk m c 3 t = V m c main_arg3 :=
  funext fun j => congrArg (V m c main_arg3) (funext fun a => Fin.ext (emb_whole t 3 (fun _ => rfl) j a))
/-- The body's block of `B` is the whole array. -/
theorem in4 : iblk m c 4 t = V m c main_arg4 :=
  funext fun j => congrArg (V m c main_arg4) (funext fun a => Fin.ext (emb_whole t 4 (fun _ => rfl) j a))
/-- The body's block of `C` is the whole array. -/
theorem in5 : iblk m c 5 t = V m c main_arg5 :=
  funext fun j => congrArg (V m c main_arg5) (funext fun a => Fin.ext (emb_whole t 5 (fun _ => rfl) j a))
/-- The body's block of `D` is the whole array. -/
theorem in6 : iblk m c 6 t = V m c main_arg6 :=
  funext fun j => congrArg (V m c main_arg6) (funext fun a => Fin.ext (emb_whole t 6 (fun _ => rfl) j a))
/-- The body's block of the gathered codes is the whole array. -/
theorem in7 : iblk m c 7 t = V m c main_v6 :=
  funext fun j => congrArg (V m c main_v6) (funext fun a => Fin.ext (emb_whole t 7 (fun _ => rfl) j a))
/-- The body's block of the gathered scales is the whole array. -/
theorem in8 : iblk m c 8 t = V m c main_v13 :=
  funext fun j => congrArg (V m c main_v13) (funext fun a => Fin.ext (emb_whole t 8 (fun _ => rfl) j a))

/-! What the one point writes back is the whole of each result array. -/

/-- The array of results after the run. -/
theorem final9 : (dats m 0 c).arrAt 9 cfg0.N = out0_9 (V m c main_arg0) (V m c main_arg1) (V m c main_arg2) (V m c main_arg3) (V m c main_arg4) (V m c main_arg5) (V m c main_arg6) (V m c main_v6) (V m c main_v13) := by
  have e (t : Fin cfg0.N) (y : S12x128x64.Idx) : ((cfg0.win 9).blk t).view.emb y = y :=
    funext fun a => Fin.ext (emb_whole t 9 (fun _ => rfl) y a)
  have cut (t : Fin cfg0.N) (X : Vec Ideal S12x128x64 .bf16) : (cfg0.win 9).cut (grid0.coords t) X = ((cfg0.win 9).blk t).view.read (Elt Ideal) X :=
    funext fun y => (congrArg X (e t y)).symm
  refine (dats m 0 c).arrAt_eq_of_cover 9 _ (fun t _ => ?_) fun i => ⟨⟨0, by decide⟩, flush0_9 _, ?_⟩
  · show (cfg0.win 9).cut (grid0.coords t) ((dats m 0 c).after 9 t) = _
    rw [after0_9, in0, in1, in2, in3, in4, in5, in6, in7, in8]
    exact cut t _
  · have h := ((cfg0.win 9).blk ⟨0, by decide⟩).view.emb_mem_set i
    rwa [e] at h

/-- The array of new codes after the run. -/
theorem final10 : (dats m 0 c).arrAt 10 cfg0.N = out0_10 (V m c main_arg0) (V m c main_arg1) (V m c main_arg2) (V m c main_arg3) (V m c main_arg4) (V m c main_arg5) (V m c main_arg6) (V m c main_v6) (V m c main_v13) := by
  have e (t : Fin cfg0.N) (y : S12x128x64x256.Idx) : ((cfg0.win 10).blk t).view.emb y = y :=
    funext fun a => Fin.ext (emb_whole t 10 (fun _ => rfl) y a)
  have cut (t : Fin cfg0.N) (X : Vec Ideal S12x128x64x256 .fp8e4m3) : (cfg0.win 10).cut (grid0.coords t) X = ((cfg0.win 10).blk t).view.read (Elt Ideal) X :=
    funext fun y => (congrArg X (e t y)).symm
  refine (dats m 0 c).arrAt_eq_of_cover 10 _ (fun t _ => ?_) fun i => ⟨⟨0, by decide⟩, flush0_10 _, ?_⟩
  · show (cfg0.win 10).cut (grid0.coords t) ((dats m 0 c).after 10 t) = _
    rw [after0_10, in0, in1, in2, in3, in4, in5, in6, in7, in8]
    exact cut t _
  · have h := ((cfg0.win 10).blk ⟨0, by decide⟩).view.emb_mem_set i
    rwa [e] at h

/-- The array of new scales after the run. -/
theorem final11 : (dats m 0 c).arrAt 11 cfg0.N = out0_11 (V m c main_arg0) (V m c main_arg1) (V m c main_arg2) (V m c main_arg3) (V m c main_arg4) (V m c main_arg5) (V m c main_arg6) (V m c main_v6) (V m c main_v13) := by
  have e (t : Fin cfg0.N) (y : S12x128.Idx) : ((cfg0.win 11).blk t).view.emb y = y :=
    funext fun a => Fin.ext (emb_whole t 11 (fun _ => rfl) y a)
  have cut (t : Fin cfg0.N) (X : Vec Ideal S12x128 .f32) : (cfg0.win 11).cut (grid0.coords t) X = ((cfg0.win 11).blk t).view.read (Elt Ideal) X :=
    funext fun y => (congrArg X (e t y)).symm
  refine (dats m 0 c).arrAt_eq_of_cover 11 _ (fun t _ => ?_) fun i => ⟨⟨0, by decide⟩, flush0_11 _, ?_⟩
  · show (cfg0.win 11).cut (grid0.coords t) ((dats m 0 c).after 11 t) = _
    rw [after0_11, in0, in1, in2, in3, in4, in5, in6, in7, in8]
    exact cut t _
  · have h := ((cfg0.win 11).blk ⟨0, by decide⟩).view.emb_mem_set i
    rwa [e] at h

end blocks

section values
variable (m : (ℓ : Loc nD τ sig) → Buf (Elt Ideal) ℓ) (c : Dev nD) (ids : ∀ b : S12.Idx, (m ((c : Thread nD τ).loc main_arg9) b : BitVec 32).toNat < 18)
  (b : Fin 12) (h : Fin 128) (i : Fin 64) (n : Fin 256)

/-- The body's new state is the decode step's. -/
theorem state_eq : Body.state (V m c main_arg0) (V m c main_arg1) (V m c main_arg2) (V m c main_arg3) (V m c main_arg4) (V m c main_v6) (V m c main_v13) b h i n
    = Step.newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) ids b h i n := by
  rw [V_main_arg0, V_main_arg1, V_main_arg2, V_main_arg3, V_main_arg4, Entry.V_codes, Entry.V_scales]
  unfold Body.state
  rw [Entry.codes_at _ b _ (ids (ix1 b)), Entry.scales_at _ b _ (ids (ix1 b))]
  rfl

/-- The reference's greatest magnitude is the decode step's. -/
theorem greatest_eq : Body.greatest (V m c main_arg0) (V m c main_arg1) (V m c main_arg2) (V m c main_arg3) (V m c main_arg4) (V m c main_v6) (V m c main_v13) b h
    = Step.newMax (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) ids b h :=
  congrArg Step.amax (funext fun i => funext fun n => state_eq m c ids b h i n)

/-- The reference's result. -/
theorem y_eq : (dats m 0 c).arrAt 9 cfg0.N (ix3 b h i) = Step.newOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ids b h i := by
  rw [final9, Body.y_out, show Body.state (V m c main_arg0) (V m c main_arg1) (V m c main_arg2) (V m c main_arg3) (V m c main_arg4) (V m c main_v6) (V m c main_v13) b h i = _ from
    funext fun n => state_eq m c ids b h i n, V_main_arg0, V_main_arg5, V_main_arg6]
  rfl

/-- The reference's new codes. -/
theorem codes_eq : (dats m 0 c).arrAt 10 cfg0.N (ix4 b h i n) = Step.newCode (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) ids b h i n := by
  rw [final10, Body.codes_out, state_eq m c ids, greatest_eq m c ids]
  rfl

/-- The reference's new scales. -/
theorem scales_eq : (dats m 0 c).arrAt 11 cfg0.N (ix2 b h) = Step.newScale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) ids b h := by
  rw [final11, Body.scale_out, greatest_eq m c ids]
  rfl

end values

end Cert.ReferenceIdeal.Result

end
-- ==== Proof.lean ====
module

public import proofs.«01_k».proof.Defs
public import proofs.«01_k».proof.Proof.SlotsBits
public import proofs.«01_k».proof.Proof.SlotsIdeal
public import proofs.«01_k».proof.Proof.KernelResult
public import proofs.«01_k».proof.Proof.RefResult
public import proofs.«01_k».proof.Proof.Gen.Kernel
public import proofs.«01_k».proof.Proof.Gen.Kernel.Frame
public import proofs.«01_k».proof.Proof.Gen.Pre_slots_in_pool
public import proofs.«01_k».proof.Proof.Gen.Pre_finite_step_inputs

@[expose] public section

set_option maxRecDepth 16384

noncomputable section

/-! The claims: the kernel runs at the number formats and at the reals, the reference runs, and at the reals the kernel's three
    results are the reference's, element by element. -/

namespace Cert.Proof

open Idealize.ShloMosaic Idealize.ShloMosaic.TcCoe Idealize.SL.Sem

/-! The slots being in the pool, the region's side condition on its table holds. -/

/-- Of the kernel at the number formats. -/
theorem ok_bits (m : (ℓ : Loc Cert.Kernel.nD Cert.Kernel.τ Cert.Kernel.sig) → Buf (Elt Bits) ℓ) (h : Cert.Pre_Kernel m) : Cert.Kernel.Gen.Ok m := by
  refine Cert.Kernel.Slots.ok_of_lt _ fun b => ?_
  rw [show Cert.Kernel.Gen.tbl m 0 = _ from Cert.Kernel.Gen.V_main_arg9 m 0]
  exact Cert.Pre.slots _ _ _ _ _ _ _ _ _ _ (h 0) b

/-- Of the kernel at the reals. -/
theorem ok_ideal (m : (ℓ : Loc Cert.KernelIdeal.nD Cert.KernelIdeal.τ Cert.KernelIdeal.sig) → Buf (Elt Ideal) ℓ) (h : Cert.Pre_KernelIdeal m) : Cert.KernelIdeal.Gen.Ok m := by
  refine Cert.KernelIdeal.Slots.ok_of_lt _ fun b => ?_
  rw [show Cert.KernelIdeal.Gen.tbl m 0 = _ from Cert.KernelIdeal.Gen.V_main_arg9 m 0]
  exact Cert.Pre.slots _ _ _ _ _ _ _ _ _ _ (h 0) b

/-- The step's inputs as the value claim's precondition gives them. -/
theorem step_inputs (m : (ℓ : Loc Cert.KernelIdeal.nD Cert.KernelIdeal.τ Cert.KernelIdeal.sig) → Buf (Elt Ideal) ℓ) (h : Cert.Pre_KernelIdeal_finite_step_inputs m)
    (c : Dev Cert.KernelIdeal.nD) : Cert.Pre.Step (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg8)) (m ((c : Thread Cert.KernelIdeal.nD Cert.KernelIdeal.τ).loc Cert.KernelIdeal.main_arg9)) :=
  Cert.Pre.step _ _ _ _ _ _ _ _ _ _ (h c)

/-- Of the kernel at the reals, under the value claim's precondition. -/
theorem ok_step (m : (ℓ : Loc Cert.KernelIdeal.nD Cert.KernelIdeal.τ Cert.KernelIdeal.sig) → Buf (Elt Ideal) ℓ) (h : Cert.Pre_KernelIdeal_finite_step_inputs m) : Cert.KernelIdeal.Gen.Ok m := by
  refine Cert.KernelIdeal.Slots.ok_of_lt _ fun b => ?_
  rw [show Cert.KernelIdeal.Gen.tbl m 0 = _ from Cert.KernelIdeal.Gen.V_main_arg9 m 0]
  exact (step_inputs m h 0).ids b

section
variable {a0 a0' : (⟨3, ![12, 128, 64]⟩ : Shape).Idx → EReal} {a1 a1' : (⟨2, ![12, 128]⟩ : Shape).Idx → EReal} {a2 a2' : (⟨1, ![128]⟩ : Shape).Idx → EReal} {a3 a3' : (⟨1, ![128]⟩ : Shape).Idx → EReal} {a4 a4' : (⟨3, ![12, 8, 256]⟩ : Shape).Idx → EReal}
  {a5 a5' : (⟨3, ![12, 8, 256]⟩ : Shape).Idx → EReal} {a6 a6' : (⟨1, ![128]⟩ : Shape).Idx → EReal} {a7 a7' : (⟨4, ![18, 128, 64, 256]⟩ : Shape).Idx → EReal} {a8 a8' : (⟨2, ![18, 128]⟩ : Shape).Idx → EReal} {a9 a9' : (⟨1, ![12]⟩ : Shape).Idx → BitVec 32}
  (e0 : a0' = a0) (e1 : a1' = a1) (e2 : a2' = a2) (e3 : a3' = a3) (e4 : a4' = a4) (e5 : a5' = a5) (e6 : a6' = a6) (e7 : a7' = a7) (e8 : a8' = a8) (e9 : a9' = a9)
  (ids : ∀ b, (a9 b).toNat < 18) (ids' : ∀ b, (a9' b).toNat < 18)
include e0 e1 e2 e3 e4 e5 e6 e7 e8 e9

/-! The decode step at equal arguments. -/

/-- The result at equal arguments. -/
theorem newOut_congr (b : Fin 12) (h : Fin 128) (i : Fin 64) : Step.newOut a0' a1' a2' a3' a4' a5' a6' a7' a8' a9' ids' b h i = Step.newOut a0 a1 a2 a3 a4 a5 a6 a7 a8 a9 ids b h i := by
  subst e0 e1 e2 e3 e4 e5 e6 e7 e8 e9
  rfl

/-- The new codes at equal arguments. -/
theorem newCode_congr (b : Fin 12) (h : Fin 128) (i : Fin 64) (n : Fin 256) : Step.newCode a0' a1' a2' a3' a4' a7' a8' a9' ids' b h i n = Step.newCode a0 a1 a2 a3 a4 a7 a8 a9 ids b h i n := by
  subst e0 e1 e2 e3 e4 e5 e6 e7 e8 e9
  rfl

/-- The new scales at equal arguments. -/
theorem newScale_congr (b : Fin 12) (h : Fin 128) : Step.newScale a0' a1' a2' a3' a4' a7' a8' a9' ids' b h = Step.newScale a0 a1 a2 a3 a4 a7 a8 a9 ids b h := by
  subst e0 e1 e2 e3 e4 e5 e6 e7 e8 e9
  rfl

end

/-- Two arrays of two axes with equal elements are equal. -/
theorem ext2 {p q : Nat} {α : Type} (f g : (⟨2, ![p, q]⟩ : Shape).Idx → α) (h : ∀ a b, f (ix2 a b) = g (ix2 a b)) : f = g := by
  funext j
  rw [show j = ix2 (j 0) (j 1) from ValueIdx.eq_ix2 j]
  exact h _ _

/-- Two arrays of three axes with equal elements are equal. -/
theorem ext3 {p q r : Nat} {α : Type} (f g : (⟨3, ![p, q, r]⟩ : Shape).Idx → α) (h : ∀ a b c, f (ix3 a b c) = g (ix3 a b c)) : f = g := by
  funext j
  rw [show j = ix3 (j 0) (j 1) (j 2) from ValueIdx.eq_ix3 j]
  exact h _ _ _

/-- Two arrays of four axes with equal elements are equal. -/
theorem ext4 {p q r s : Nat} {α : Type} (f g : (⟨4, ![p, q, r, s]⟩ : Shape).Idx → α) (h : ∀ a b c d, f (ix4 a b c d) = g (ix4 a b c d)) : f = g := by
  funext j
  rw [show j = ix4 (j 0) (j 1) (j 2) (j 3) from ValueIdx.eq_ix4 j]
  exact h _ _ _ _

set_option maxHeartbeats 2000000 in
/-- The value claim: the two programs run from equal arguments leave equal results. -/
theorem results : Cert.algebraic_KernelIdeal_ReferenceIdeal_pre_finite_step_inputs := by
  intro m g m' g' hpre hargs
  have hO := ok_step m hpre
  have H := step_inputs m hpre
  have ids' : ∀ (c : Dev Cert.ReferenceIdeal.nD) (b : Cert.ReferenceIdeal.S12.Idx), (m' ((c : Thread Cert.ReferenceIdeal.nD Cert.ReferenceIdeal.τ).loc Cert.ReferenceIdeal.main_arg9) b : BitVec 32).toNat < 18 := by
    intro c b
    obtain ⟨_, _, _, _, _, _, _, _, _, e9⟩ := hargs c
    exact (congrArg (fun w : BitVec 32 => w.toNat) (congrFun e9 b)).trans_lt ((H c).ids b)
  refine ⟨fun c => (Cert.KernelIdeal.Gen.dats m hO 0 c).arrAt 9 (Cert.KernelIdeal.Gen.cfgM m hO).N,
    fun c => (Cert.KernelIdeal.Gen.dats m hO 0 c).arrAt 10 (Cert.KernelIdeal.Gen.cfgM m hO).N,
    fun c => Cert.KernelIdeal.Result.scales m hO c,
    Cert.KernelIdeal.Result.run_blocks m g hO, ?_⟩
  refine (θ_run Cert.ReferenceIdeal.defs _ _).mono (fun r h c => ?_) (Cert.ReferenceIdeal.Result.run_blocks m' g')
  obtain ⟨h0, h1, h2, h⟩ := h c
  obtain ⟨e0, e1, e2, e3, e4, e5, e6, e7, e8, e9⟩ := hargs c
  refine ⟨h0.trans ?_, h1.trans ?_, h2.trans ?_, h⟩
  · refine ext3 _ _ fun b h i => ?_
    have a := Cert.ReferenceIdeal.Result.y_eq m' c (ids' c) b h i
    have k := Cert.KernelIdeal.Result.y_eq m c hO (H c).ids b h i (H c)
    have e := newOut_congr e0 e1 e2 e3 e4 e5 e6 e7 e8 e9 (H c).ids (ids' c) b h i
    exact a.trans (e.trans k.symm)
  · refine ext4 _ _ fun b h i n => ?_
    have a := Cert.ReferenceIdeal.Result.codes_eq m' c (ids' c) b h i n
    have k := Cert.KernelIdeal.Result.codes_eq m c hO (H c).ids b h i n
    have e := newCode_congr e0 e1 e2 e3 e4 e5 e6 e7 e8 e9 (H c).ids (ids' c) b h i n
    exact a.trans (e.trans k.symm)
  · refine ext2 _ _ fun b h => ?_
    have a := Cert.ReferenceIdeal.Result.scales_eq m' c (ids' c) b h
    have k := Cert.KernelIdeal.Result.scales_eq m c hO (H c).ids b h
    have e := newScale_congr e0 e1 e2 e3 e4 e5 e6 e7 e8 e9 (H c).ids (ids' c) b h
    exact a.trans (e.trans k.symm)

/-- Every claim. -/
theorem claim : Cert.Claim :=
  ⟨Cert.Kernel.Gen.facts, Cert.KernelIdeal.Gen.facts, Cert.ReferenceIdeal.Gen.facts, Cert.Pre_slots_in_pool.Gen.facts, Cert.Pre_finite_step_inputs.Gen.facts,
    fun m ρ h => Cert.Kernel.Gen.frame m ρ (ok_bits m h),
    fun m ρ h => Cert.KernelIdeal.Gen.frame m ρ (ok_ideal m h),
    fun m ρ h => Cert.KernelIdeal.Gen.frame m ρ (ok_step m h),
    fun m ρ _ => Cert.ReferenceIdeal.Gen.frame m ρ,
    fun m ρ _ => Cert.ReferenceIdeal.Gen.frame m ρ,
    trivial,
    results⟩

end Cert.Proof

end
